-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S4x1024x512 : Shape := ⟨3, ![4, 1024, 512]⟩
abbrev S1x128 : Shape := ⟨2, ![1, 128]⟩
abbrev S4x128 : Shape := ⟨2, ![4, 128]⟩
abbrev S2 : Shape := ⟨1, ![2]⟩
abbrev S4 : Shape := ⟨1, ![4]⟩
abbrev S1 : Shape := ⟨1, ![1]⟩
abbrev S_ : Shape := ⟨0, ![]⟩
abbrev S512x4096 : Shape := ⟨2, ![512, 4096]⟩
abbrev S512x512 : Shape := ⟨2, ![512, 512]⟩
abbrev S1x512x512 : Shape := ⟨3, ![1, 512, 512]⟩
abbrev S1x1x1 : Shape := ⟨3, ![1, 1, 1]⟩
abbrev S1x4x128 : Shape := ⟨3, ![1, 4, 128]⟩
abbrev S1x1024x512 : Shape := ⟨3, ![1, 1024, 512]⟩
abbrev S1024x512 : Shape := ⟨2, ![1024, 512]⟩

abbrev nBuf : Space → Nat
  | .hbm => 3
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S1024x4096, .f32⟩
  | .local _ .vmem, ⟨1, _⟩ => ⟨S4x1024x512, .f32⟩
  | .local _ .vmem, ⟨2, _⟩ => ⟨S4096x512, .f32⟩
  | .local _ .vmem, ⟨3, _⟩ => ⟨S4096x512, .f32⟩
  | .local _ .vmem, ⟨4, _⟩ => ⟨S1x128, .f32⟩
  | .local _ .vmem, ⟨5, _⟩ => ⟨S4x128, .f32⟩
  | .local _ .vmem, ⟨6, _⟩ => ⟨S4x1024x512, .i8⟩
  | .local _ .vmem, ⟨7, _⟩ => ⟨S4x1024x512, .i8⟩
  | .local _ .vmem, ⟨8, _⟩ => ⟨S4096x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v18 : BitVec 32 := Scalar.addi v2 c1_i32_14
  let c4_i32_15 : BitVec 32 := 4#32
  let v19 : BitVec 32 := Scalar.remsi v18 c4_i32_15
  let c1_i32_17 : BitVec 32 := 1#32
  let v20 : BitVec 32 := Scalar.muli v19 c1_i32_17
  let v21 : BitVec 32 := Scalar.addi c0_i32_18 v20
  v21.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v22 : BitVec 32 := Scalar.addi v2 c2_i32
  let c4_i32_19 : BitVec 32 := 4#32
  let v23 : BitVec 32 := Scalar.remsi v22 c4_i32_19
  let c1_i32_21 : BitVec 32 := 1#32
  let v24 : BitVec 32 := Scalar.muli v23 c1_i32_21
  let v25 : BitVec 32 := Scalar.addi c0_i32_22 v24
  v25.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v26 : BitVec 32 := Scalar.addi v2 c3_i32
  let c4_i32_23 : BitVec 32 := 4#32
  let v27 : BitVec 32 := Scalar.remsi v26 c4_i32_23
  let c1_i32_25 : BitVec 32 := 1#32
  let v28 : BitVec 32 := Scalar.muli v27 c1_i32_25
  let v29 : BitVec 32 := Scalar.addi c0_i32_26 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v156 : Index := Scalar.indexCast v2
  let c0_122 : Index := 0#32
  ![v156.toNat, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_128 : BitVec 32 := 0#32
  ![v2.toNat, 0]
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_123 : BitVec 32 := 1#32
  let v160 : BitVec 32 := Scalar.addi v2 c1_i32_123
  let c4_i32_124 : BitVec 32 := 4#32
  let v161 : BitVec 32 := Scalar.remsi v160 c4_i32_124
  let c1_i32_126 : BitVec 32 := 1#32
  let v162 : BitVec 32 := Scalar.muli v161 c1_i32_126
  let v163 : BitVec 32 := Scalar.addi c0_i32_127 v162
  v163.toNat
def k0_dev5 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_129 : BitVec 32 := 2#32
  let v169 : BitVec 32 := Scalar.addi v2 c2_i32_129
  let c4_i32_130 : BitVec 32 := 4#32
  let v170 : BitVec 32 := Scalar.remsi v169 c4_i32_130
  let c1_i32_132 : BitVec 32 := 1#32
  let v171 : BitVec 32 := Scalar.muli v170 c1_i32_132
  let v172 : BitVec 32 := Scalar.addi c0_i32_133 v171
  v172.toNat
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v178 : BitVec 32 := Scalar.addi v2 c3_i32_135
  let c4_i32_136 : BitVec 32 := 4#32
  let v179 : BitVec 32 := Scalar.remsi v178 c4_i32_136
  let c1_i32_138 : BitVec 32 := 1#32
  let v180 : BitVec 32 := Scalar.muli v179 c1_i32_138
  let v181 : BitVec 32 := Scalar.addi c0_i32_139 v180
  v181.toNat
def k0_off4 (d0 : Dev nD) (c1_i32_141 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_141
  let c4_i32_142 : BitVec 32 := 4#32
  let v188 : BitVec 32 := Scalar.remsi v187 c4_i32_142
  ![v188.toNat]
def k0_off5 (d0 : Dev nD) (c1_i32_141 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_141
  let c4_i32_142 : BitVec 32 := 4#32
  let v188 : BitVec 32 := Scalar.remsi v187 c4_i32_142
  let c0_i32_146 : BitVec 32 := 0#32
  ![v188.toNat, 0]
def k0_off6 (d0 : Dev nD) (c2_i32_164 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v215 : BitVec 32 := Scalar.addi v2 c2_i32_164
  let c4_i32_165 : BitVec 32 := 4#32
  let v216 : BitVec 32 := Scalar.remsi v215 c4_i32_165
  let v217 : Index := Scalar.indexCast v216
  let c0_166 : Index := 0#32
  let c0_167 : Index := 0#32
  ![v217.toNat, 0, 0]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_177 : BitVec 32 := 0#32
  let c0_i32_178 : BitVec 32 := 0#32
  ![v2.toNat, 0, 0]
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v215 : BitVec 32 := Scalar.addi v2 c2_i32_164
  let c4_i32_165 : BitVec 32 := 4#32
  let v216 : BitVec 32 := Scalar.remsi v215 c4_i32_165
  let c1_i32_175 : BitVec 32 := 1#32
  let v231 : BitVec 32 := Scalar.muli v216 c1_i32_175
  let v232 : BitVec 32 := Scalar.addi c0_i32_176 v231
  v232.toNat
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_181 : BitVec 32 := 1#32
  let v241 : BitVec 32 := Scalar.addi v2 c1_i32_181
  let c4_i32_182 : BitVec 32 := 4#32
  let v242 : BitVec 32 := Scalar.remsi v241 c4_i32_182
  let c1_i32_192 : BitVec 32 := 1#32
  let v257 : BitVec 32 := Scalar.muli v242 c1_i32_192
  let v258 : BitVec 32 := Scalar.addi c0_i32_193 v257
  v258.toNat
def k0_dev9 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_198 : BitVec 32 := 3#32
  let v267 : BitVec 32 := Scalar.addi v2 c3_i32_198
  let c4_i32_199 : BitVec 32 := 4#32
  let v268 : BitVec 32 := Scalar.remsi v267 c4_i32_199
  let c1_i32_209 : BitVec 32 := 1#32
  let v283 : BitVec 32 := Scalar.muli v268 c1_i32_209
  let v284 : BitVec 32 := Scalar.addi c0_i32_210 v283
  v284.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v293 : Index := Scalar.indexCast v2
  let c0_215 : Index := 0#32
  let c0_216 : Index := 0#32
  ![v293.toNat, 0, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_221 : BitVec 32 := 1024#32
  let v308 : BitVec 32 := Scalar.muli v2 c1024_i32_221
  let c0_i32_223 : BitVec 32 := 0#32
  ![v308.toNat, 0]
def k0_off10 (d0 : Dev nD) (c1_i32_226 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 32 := Scalar.addi v2 c1_i32_226
  let c4_i32_227 : BitVec 32 := 4#32
  let v314 : BitVec 32 := Scalar.remsi v313 c4_i32_227
  let c0_i32_232 : BitVec 32 := 0#32
  let c0_i32_233 : BitVec 32 := 0#32
  ![v314.toNat, 0, 0]
def k0_off11 (d0 : Dev nD) (c1_i32_226 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 32 := Scalar.addi v2 c1_i32_226
  let c4_i32_227 : BitVec 32 := 4#32
  let v314 : BitVec 32 := Scalar.remsi v313 c4_i32_227
  let c1024_i32_239 : BitVec 32 := 1024#32
  let v332 : BitVec 32 := Scalar.muli v314 c1024_i32_239
  let c0_i32_241 : BitVec 32 := 0#32
  ![v332.toNat, 0]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Contents.lean ====
/-
# What each buffer holds, device by device

The kernel runs on four devices. Device `c` holds rows `c * 1024 ..` of the left operand (`x`, 1024 x 4096)
and the whole right operand (`w`, 4096 x 2048). It multiplies its rows with `w`, cut in four column blocks of
512 (one per device), takes the largest absolute value of the product, exchanges it with the other devices,
quantises its product with the resulting scale, sends column block `p` to device `p`, and writes the column
block of its own, all four row blocks, into its result.

This module names those contents as functions of the memory at launch, over any float type `F`, in the
kernel's own values (`k0_payN`, the pure values between its memory operations).
-/
module

public import proofs.«01_k».proof.Proof.Gen.KernelIdeal
public import proofs.«01_k».proof.Proof.Gen.KernelIdeal.Skeleton
public import Idealize.ShloMosaic.Lib.ValueIdxCore

@[expose] public section

noncomputable section

namespace Cert.KernelIdeal.Mesh

open Cert.KernelIdeal Cert.KernelIdeal.Gen
open Idealize.ShloMosaic Idealize.ShloMosaic.TcCoe Idealize.ShloMosaic.ValueIdx

variable {F : FTy → Type} [FloatOps F]

/-! ## The buffers -/

/-- The left operand, in HBM. -/
abbrev aM : Memref sig .tc .hbm S1024x4096 .f32 := Memref.whole main_arg0
/-- The right operand, in HBM. -/
abbrev wM : Memref sig .tc .hbm S4096x2048 .f32 := Memref.whole main_arg1
/-- The result, in HBM. -/
abbrev oM : Memref sig .tc .hbm S4096x512 .f32 := Memref.whole main_v1
/-- The on-chip copy of the left operand. -/
abbrev xV : Memref sig .tc .vmem S1024x4096 .f32 := Memref.whole cc0_scratch0
/-- The device's product, by column block. -/
abbrev yV : Memref sig .tc .vmem S4x1024x512 .f32 := Memref.whole cc0_scratch1
/-- The first buffer of a column block of the right operand. -/
abbrev waV : Memref sig .tc .vmem S4096x512 .f32 := Memref.whole cc0_scratch2
/-- The second buffer of a column block of the right operand. -/
abbrev wbV : Memref sig .tc .vmem S4096x512 .f32 := Memref.whole cc0_scratch3
/-- The row of maxima that the device publishes. -/
abbrev txV : Memref sig .tc .vmem S1x128 .f32 := Memref.whole cc0_scratch4
/-- The rows of maxima of all devices. -/
abbrev rxV : Memref sig .tc .vmem S4x128 .f32 := Memref.whole cc0_scratch5
/-- The quantised blocks to send. -/
abbrev qtV : Memref sig .tc .vmem S4x1024x512 .i8 := Memref.whole cc0_scratch6
/-- The quantised blocks that arrive. -/
abbrev qrV : Memref sig .tc .vmem S4x1024x512 .i8 := Memref.whole cc0_scratch7
/-- The stage of the result's row blocks. -/
abbrev stV : Memref sig .tc .vmem S4096x512 .f32 := Memref.whole cc0_scratch8

/-! ## The ring of devices -/

/-- The device `k` places after `c`. -/
def pl (k : Fin 4) (c : Dev nD) : Dev nD := ⟨(c.val + k.val) % 4, Nat.mod_lt _ (by decide)⟩

/-! ## The product -/

variable (m : (ℓ : Loc nD τ sig) → Buf (Elt F) ℓ)

/-- Half `h` of the rows lies within the left operand. -/
theorem xh_inb (h : Fin 2) : ∀ a, (![512 * h.val, 0] : Fin 2 → ℕ) a + S512x4096.size a ≤ S1024x4096.size a := by
  revert h; decide
/-- Column block `j` lies within the right operand. -/
theorem wc_inb (j : Fin 4) : ∀ a, (![0, 512 * j.val] : Fin 2 → ℕ) a + S4096x512.size a ≤ S4096x2048.size a := by
  revert j; decide

/-- Half `h` of device `c`'s rows. -/
def xh (c : Dev nD) (h : Fin 2) : Vec F S512x4096 .f32 :=
  aM.view.readAt (Elt F) (Rect.unit (s := S1024x4096) ![512 * h.val, 0] S512x4096.size (xh_inb h)).toLoadRect (m ((c : Thread nD τ).loc main_arg0))
/-- Column block `j` of the right operand. -/
def wc (c : Dev nD) (j : Fin 4) : Vec F S4096x512 .f32 :=
  wM.view.readAt (Elt F) (Rect.unit (s := S4096x2048) ![0, 512 * j.val] S4096x512.size (wc_inb j)).toLoadRect (m ((c : Thread nD τ).loc main_arg1))

/-- Half `h` of column block `j` of device `c`'s product. -/
def blk (c : Dev nD) (j : Fin 4) (h : Fin 2) : FVec F S512x512 .f32 := k0_pay1 (xh m c h) (wc m c j)

/-- Device `c`'s product, by column block, row and column in the block. -/
def yFull (c : Dev nD) : Vec F S4x1024x512 .f32 := fun i =>
  blk m c (i 0) ⟨(i 1).val / 512, Nat.div_lt_of_lt_mul (i 1).isLt⟩ (ix2 (n0 := 512) (n1 := 512) ⟨(i 1).val % 512, Nat.mod_lt _ (by decide)⟩ (i 2))

/-- Column block `j` of it, with the leading unit axis a load of it has. -/
def ySlab (c : Dev nD) (j : Fin 4) : Vec F S1x1024x512 .f32 := fun i => yFull m c (ix3 (n0 := 4) (n1 := 1024) (n2 := 512) j (i 1) (i 2))

/-! ## The scale -/

/-- The row of 128 equal lanes that device `c` publishes: the largest absolute value of its product. -/
def amaxRow (c : Dev nD) : Vec F S1x128 .f32 :=
  k0_pay26 (k0_pay3 (xh m c 0) (wc m c 0)) (k0_pay6 (xh m c 1) (wc m c 0)) (k0_pay9 (xh m c 0) (wc m c 1)) (k0_pay12 (xh m c 1) (wc m c 1))
    (k0_pay15 (xh m c 0) (wc m c 2)) (k0_pay18 (xh m c 1) (wc m c 2)) (k0_pay21 (xh m c 0) (wc m c 3)) (k0_pay24 (xh m c 1) (wc m c 3))

/-- All four devices' rows: the same on every device once they have landed. -/
def amaxAll : Vec F S4x128 .f32 := fun i => amaxRow m (i 0) (ix2 (n0 := 1) (n1 := 128) 0 (i 1))

/-- The loaded rows, as the kernel reduces them. -/
def amaxVec : FVec F S1x4x128 .f32 := k0_pay28 (amaxAll m)
/-- The scale: the largest absolute value over 127. -/
def scl : F .f32 := k0_pay30 (amaxVec m)
/-- Its inverse, as the kernel computes it: 127 over the largest absolute value. -/
def inv : F .f32 := k0_pay31 (amaxVec m)

/-! ## The quantised blocks and the result -/

/-- Column block `j` of device `c`'s product, quantised, with the leading unit axis. -/
def qSlab (c : Dev nD) (j : Fin 4) : Vec F S1x1024x512 .i8 := k0_pay32 (amaxVec m) (ySlab m c j)
/-- The same without the axis. -/
def qBlk (c : Dev nD) (j : Fin 4) : Vec F S1024x512 .i8 := fun i => qSlab m c j (ix3 (n0 := 1) (n1 := 1024) (n2 := 512) 0 (i 0) (i 1))

/-- What lands on device `p`: from each device `o`, that device's block `p`. -/
def qAll (p : Dev nD) : Vec F S4x1024x512 .i8 := fun i => qBlk m (i 0) p (ix2 (n0 := 1024) (n1 := 512) (i 1) (i 2))

/-- What device `p` writes for the rows of device `o`: its own rows it rounds and scales at once, the others'
    it received quantised. -/
def outBlk (p o : Dev nD) : Vec F S1024x512 .f32 :=
  if o = p then k0_pay36 (scl m) (inv m) (ySlab m p p) else k0_pay37 (scl m) (qSlab m o p)

/-- Device `p`'s result. -/
def outFull (p : Dev nD) : Vec F S4096x512 .f32 := fun i =>
  outBlk m p ⟨(i 0).val / 1024, Nat.div_lt_of_lt_mul (i 0).isLt⟩ (ix2 (n0 := 1024) (n1 := 512) ⟨(i 0).val % 1024, Nat.mod_lt _ (by decide)⟩ (i 1))

end Cert.KernelIdeal.Mesh

end
-- ==== Proof.Protocol.lean ====
/-
# The protocol between the four devices

Every semaphore that another device signals, or onto which a transfer between devices is counted, is one cell
of a schedule with a single round. Per device `p`:

* the barrier: devices `p-1`, `p-2`, `p-3` signal one unit each; `p` waits for three. The signal of device
  `p - i` hands over the two places that `p` writes on that device: row `p` of its maxima and slab `p` of its
  arrived blocks.
* `aSend i` (`i = 1, 2, 3`): the departure of `p`'s row of maxima to device `p + i`; gives the share of the row back.
* `aRecv o` (`o ≠ p`): the arrival of device `o`'s row of maxima, at row `o`.
* `dSend i`: the departure of the quantised block to device `p + i`; gives the slab back.
* `dRecv o` (`o ≠ p`): the arrival of device `o`'s quantised block, at slab `o`.

In program order a device signals the three barriers, waits on its own, sends three rows of maxima, waits for
three, sends three blocks, waits for three, and last waits for its six departures. Barriers are at level 1,
arrivals of maxima at 2, arrivals of blocks at 3, everything else at 0: a device waits only below what it owes.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's rounds, the mesh's rounds, the local transfers' counters -/

/-- The algebra of the mesh's own rounds: the cells' duties are named by four numbers. -/
abbrev UB : Type := URounds (GSem nD τ sig) (Fin 4)
/-- The whole algebra: the launch's rounds, the mesh's rounds, the local transfers' counters. -/
abbrev UU : Type := UR sig nD τ × (UB × Counters)

local notation "𝕄" => MT nD τ sig Unit (Elt F) ℕ UU ℕ

/-- Where the launch's rounds lie in the algebra. -/
abbrev EP : Emb (UR sig nD τ) (MT nD τ sig Unit (Elt F) ℕ UU ℕ) := embL
/-- Where the mesh's rounds lie in the algebra. -/
def ER : Emb UB (MT nD τ sig Unit (Elt F) ℕ UU ℕ) := (Emb.inl : Emb UB (UB × Counters)).trans embR
/-- The mesh's rounds lie among the resources, so ownership of them may be kept in an invariant. -/
instance ER_landsIn : (ER : Emb UB 𝕄).LandsIn (upEmb : UEmb _ 𝕄) := by unfold ER; infer_instance

variable (m : (ℓ : Loc nD τ sig) → Buf (Elt F) ℓ)

/-! ## The places handed over -/

/-- Row `o` lies within the rows of maxima. -/
theorem rxRow_inb (o : Fin 4) : ∀ a, (![o.val, 0] : Fin 2 → ℕ) a + S1x128.size a ≤ S4x128.size a := by revert o; decide
/-- Row `o` of the maxima. -/
abbrev rxRow (o : Fin 4) : Memref sig .tc .vmem S1x128 .f32 :=
  rxV.slice (Rect.unit (s := S4x128) ![o.val, 0] S1x128.size (rxRow_inb o)) (fun _ => rfl)
/-- Slab `i` lies within a buffer of four blocks. -/
theorem slab_inb (i : Fin 4) : ∀ a, (![i.val, 0, 0] : Fin 3 → ℕ) a + S1x1024x512.size a ≤ S4x1024x512.size a := by revert i; decide
/-- Slab `i` of a buffer of four quantised blocks. -/
abbrev slab (M : Memref sig .tc .vmem S4x1024x512 .i8) (i : Fin 4) : Memref sig .tc .vmem S1024x512 .i8 :=
  (M.slice (Rect.unit (s := S4x1024x512) ![i.val, 0, 0] S1x1024x512.size (slab_inb i)) (fun _ => rfl)).squeeze S1024x512 squeezes_S1x1024x512_S1024x512
/-- Slab `i` of the quantised blocks to send, and slab `o` of the arrived ones. -/
abbrev qtRow (i : Fin 4) : Memref sig .tc .vmem S1024x512 .i8 := slab qtV i
/-- Slab `o` of the arrived blocks. -/
abbrev qrRow (o : Fin 4) : Memref sig .tc .vmem S1024x512 .i8 := slab qrV o

/-- Row `o` of the maxima of device `p`, holding `f` there. -/
def rowPts (p : Dev nD) (o : Fin 4) (f : Vec F S4x128 .f32) : sProp 𝕄 :=
  (rxRow o).view.loc (p : Thread nD τ) ↦[(rxRow o).view.set]{fullShare} f
/-- Token `i` of three of the row that device `p` publishes. -/
def txPts (p : Dev nD) (i : ℕ) : sProp 𝕄 :=
  (txV : Memref sig .tc .vmem S1x128 .f32).view.loc (p : Thread nD τ) ↦[(txV : Memref sig .tc .vmem S1x128 .f32).view.set]{Transfers.shareTokN fullShare i} amaxRow m p
/-- Slab `i` of the blocks to send of device `p`, at some contents. -/
def qtPts (p : Dev nD) (i : Fin 4) : sProp 𝕄 :=
  iprop(∃ f, (qtRow i).view.loc (p : Thread nD τ) ↦[(qtRow i).view.set]{fullShare} f)
/-- Slab `o` of the arrived blocks of device `p`, holding `f` there. -/
def qrPts (p : Dev nD) (o : Fin 4) (f : Vec F S4x1024x512 .i8) : sProp 𝕄 :=
  (qrRow o).view.loc (p : Thread nD τ) ↦[(qrRow o).view.set]{fullShare} f

/-- A row of maxima may be handed over through a cell. -/
instance rowPts_storable (p o) (f) : BI.Storable (upEmb : UEmb _ 𝕄) (rowPts (F := F) p o f) := by unfold rowPts; infer_instance
/-- A token of the published row may be handed over through a cell. -/
instance txPts_storable (p) (i) : BI.Storable (upEmb : UEmb _ 𝕄) (txPts (F := F) m p i) := by unfold txPts; infer_instance
/-- A slab to send may be handed over through a cell. -/
instance qtPts_storable (p i) : BI.Storable (upEmb : UEmb _ 𝕄) (qtPts (F := F) p i) := by unfold qtPts; infer_instance
/-- An arrived slab may be handed over through a cell. -/
instance qrPts_storable (p o) (f) : BI.Storable (upEmb : UEmb _ 𝕄) (qrPts (F := F) p o f) := by unfold qrPts; infer_instance

/-! ## The cells -/

/-- The runtime's barrier semaphore. -/
abbrev barS : Sem sig := (SemArray.scalar (sig.barrier 0 rfl) : Sems sig S_).sem
/-- The transfer semaphores between devices: kind 0 `aSend`, 1 `aRecv`, 2 `dSend`, 3 `dRecv`, each of four. -/
def dq (k i : Fin 4) : DmaSem sig := (⟨8 + 4 * k.val + i.val, by revert k i; decide⟩ : Fin 24)

/-- The indices of a device's cells: the barrier, or a transfer semaphore. -/
abbrev KI : Type := Option (Fin 4 × Fin 4)
/-- The semaphore with a given index. -/
abbrev csem : KI → SemLoc sig := fun | none => .reg barS | some (k, i) => .dma (dq k i)
/-- The cell of a device's semaphore with a given index. -/
abbrev kcell (ck : Dev nD × KI) : GSem nD τ sig := ((ck.1 : Thread nD τ), csem ck.2)
/-- The barrier's cell on device `p`. -/
abbrev bcell (p : Dev nD) : GSem nD τ sig := kcell (p, none)
/-- The cell of transfer semaphore `i` of kind `k` on device `p`. -/
abbrev dcell (p : Dev nD) (k i : Fin 4) : GSem nD τ sig := kcell (p, some (k, i))

/-- A semaphore's index among a device's cells. -/
def kidx (sm : SemLoc sig) : Option KI := match sm with
  | .reg s => if s = barS then some none else none
  | .dma q => if h : 8 ≤ q.val then some (some (⟨(q.val - 8) / 4, by have := q.isLt; change q.val < 24 at this; omega⟩, ⟨(q.val - 8) % 4, Nat.mod_lt _ (by decide)⟩)) else none

/-- The index of the semaphore with index `k` is `k`. -/
theorem kidx_csem (k : KI) : kidx (csem k) = some k := by revert k; decide

/-- Cells of different devices or indices differ. -/
theorem kcell_injective : Function.Injective (kcell : Dev nD × KI → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kidx_csem k, ← kidx_csem k', h2]
  rw [h1, Option.some.inj h3]

/-- The credit of a row of maxima, and of a quantised block. -/
abbrev NA : ℕ := (txV : Memref sig .tc .vmem S1x128 .f32).view.dmaCredit
/-- The credit of a quantised block. -/
abbrev NQ : ℕ := (qrRow 0).view.dmaCredit
/-- A row's credit is positive. -/
theorem NA_pos : 0 < NA := View.dmaCredit_pos _ (by decide)
/-- A block's credit is positive. -/
theorem NQ_pos : 0 < NQ := View.dmaCredit_pos _ (by decide)

/-! ## The schedule -/

/-- What a signal of device `p - i` hands to device `p`. -/
def barPay (p : Dev nD) (i : Fin 4) : sProp 𝕄 := iprop((∃ f, rowPts (pl (-i) p) p f) ∗ ∃ f, qrPts (pl (-i) p) p f)
/-- The duties of a cell of device `p`. -/
def dutiesOf (p : Dev nD) : KI → Finset (Fin 4)
  | none => {1, 2, 3}
  | some (1, i) => if i = p then ∅ else {0}
  | some (3, i) => if i = p then ∅ else {0}
  | some (_, i) => if i = 0 then ∅ else {0}
/-- The units that one duty of a cell pays. -/
def amountOf : KI → ℕ
  | none => 1
  | some (0, _) => NA
  | some (1, _) => NA
  | some (_, _) => NQ
/-- What one duty of a cell hands over. -/
def payOf (p : Dev nD) (d : Fin 4) : KI → sProp 𝕄
  | none => barPay p d
  | some (0, i) => txPts m p i.val
  | some (1, o) => rowPts p o (amaxAll m)
  | some (2, i) => qtPts p i
  | some (3, o) => qrPts p o (qAll m p)

/-- What a duty hands over may be kept in a cell. -/
instance payOf_storable (p d k) : BI.Storable (upEmb : UEmb _ 𝕄) (payOf (F := F) m p d k) := by
  rcases k with _ | ⟨k, i⟩
  · show BI.Storable upEmb (barPay p d); unfold barPay; infer_instance
  · fin_cases k
    · show BI.Storable upEmb (txPts m p i.val); infer_instance
    · show BI.Storable upEmb (rowPts p i (amaxAll m)); infer_instance
    · show BI.Storable upEmb (qtPts p i); infer_instance
    · show BI.Storable upEmb (qrPts p i (qAll m p)); infer_instance

/-- One round, round 0, on the TensorCores' cells. -/
def Rd : Rounds.Schedule (GSem nD τ sig) (Fin 4) 𝕄 where
  duties g r := if r = 0 ∧ g.1.2 = .tc then (kidx g.2).elim ∅ (dutiesOf g.1.1) else ∅
  unitless _ := False
  amount g _ _ := (kidx g.2).elim 1 amountOf
  payload g _ d := (kidx g.2).elim iprop(emp) (payOf m g.1.1 d)
  amount_pos g _ _ _ := by
    rcases kidx g.2 with _ | _ | ⟨k, i⟩
    · exact Nat.one_pos
    · exact Nat.one_pos
    · show 0 < amountOf (some (k, i))
      fin_cases k
      · exact NA_pos
      · exact NA_pos
      · exact NQ_pos
      · exact NQ_pos

/-- Every payload of the schedule may be kept in a cell. -/
instance Rd_payload_storable (g : GSem nD τ sig) (r : ℕ) (d : Fin 4) :
    BI.Storable (upEmb : UEmb _ 𝕄) ((Rd (F := F) m).payload g r d) := by
  show BI.Storable upEmb ((kidx g.2).elim iprop(emp) (payOf m g.1.1 d))
  rcases kidx g.2 with _ | k
  · show BI.Storable upEmb iprop(emp); infer_instance
  · show BI.Storable upEmb (payOf m g.1.1 d k); infer_instance

/-- The duties of a cell at round 0 are those of its index. -/
theorem duties_at (p : Dev nD) (k : KI) : (Rd (F := F) m).duties (kcell (p, k)) 0 = dutiesOf p k := by
  dsimp only [Rd]; rw [if_pos ⟨rfl, rfl⟩, kidx_csem]; rfl
/-- A duty of a cell at round 0 pays the amount of its index. -/
theorem amount_at (p : Dev nD) (k : KI) (d : Fin 4) : (Rd (F := F) m).amount (kcell (p, k)) 0 d = amountOf k := by
  dsimp only [Rd]; rw [kidx_csem]; rfl
/-- A duty of a cell at round 0 hands over what its index says. -/
theorem payload_at (p : Dev nD) (k : KI) (d : Fin 4) : (Rd (F := F) m).payload (kcell (p, k)) 0 d = payOf m p d k := by
  dsimp only [Rd]; rw [kidx_csem]; rfl
/-- After round 0 no cell has a duty. -/
theorem duties_later (g : GSem nD τ sig) : ∀ r, 1 ≤ r → (Rd (F := F) m).duties g r = ∅ :=
  fun r hr => by dsimp only [Rd]; rw [if_neg fun h => by omega]
/-- A cell at round 0 expects its duties' number times the amount of one. -/
theorem expect_at (p : Dev nD) (k : KI) : (Rd (F := F) m).expect (kcell (p, k)) 0 = (dutiesOf p k).card * amountOf k := by
  unfold Schedule.expect Schedule.amountOf
  rw [duties_at, Finset.sum_congr rfl fun d _ => amount_at m p k d, Finset.sum_const, smul_eq_mul]
/-- All the payloads of a cell at round 0, by its index. -/
theorem rest_at (p : Dev nD) (k : KI) :
    bigSep ((Rd (F := F) m).duties (kcell (p, k)) 0 \ ∅) (fun d => (Rd (F := F) m).payload (kcell (p, k)) 0 d) = bigSep (dutiesOf p k) fun d => payOf m p d k := by
  rw [Finset.sdiff_empty, duties_at]; exact bigSep_congr fun d _ => payload_at m p k d

/-! ## What a device owes, and the levels -/

/-- What device `c` owes once the barrier is behind it and its maxima are sent: the three blocks; -/
def owD (c : Dev nD) : CellTallies nD τ sig Unit :=
  0 + tallyAt (dcell (pl 3 c) 3 c) () NQ + tallyAt (dcell (pl 1 c) 3 c) () NQ + tallyAt (dcell (pl 2 c) 3 c) () NQ
/-- with the three rows of maxima; -/
def owA (c : Dev nD) : CellTallies nD τ sig Unit :=
  owD c + tallyAt (dcell (pl 3 c) 1 c) () NA + tallyAt (dcell (pl 2 c) 1 c) () NA + tallyAt (dcell (pl 1 c) 1 c) () NA
/-- with the three barrier signals: at launch. -/
def owB (c : Dev nD) : CellTallies nD τ sig Unit :=
  owA c + tallyAt (bcell (pl 3 c)) () 1 + tallyAt (bcell (pl 2 c)) () 1 + tallyAt (bcell (pl 1 c)) () 1

/-- The indices that have a level at a cell: the one there is on a TensorCore, none elsewhere. -/
def L (g : GSem nD τ sig) : Finset Unit := if g.1.2 = .tc then {()} else ∅
/-- The level of a semaphore. -/
def lvS : Option KI → ℕ
  | some none => 1
  | some (some (1, _)) => 2
  | some (some (3, _)) => 3
  | _ => 0
/-- The level of a cell is that of its semaphore. -/
def lv (g : GSem nD τ sig) (_ : Unit) : ℕ := lvS (kidx g.2)

/-- A cell off the TensorCores has no index. -/
theorem L_of_ne (g : GSem nD τ sig) (h : g.1.2 ≠ .tc) : L g = ∅ := if_neg h
/-- A cell on a TensorCore has the one index. -/
theorem L_tc (c : Dev nD) (sm : SemLoc sig) : L ((c : Thread nD τ), sm) = {()} := if_pos rfl

/-- Everything in `O` is owed to TensorCores' cells above level `n`. -/
def Above (n : ℕ) (O : CellTallies nD τ sig Unit) : Prop := ∀ g u, 0 < O g u → g.1.2 = .tc ∧ n < lv g u

/-- Nothing owed is above every level. -/
theorem above_zero (n : ℕ) : Above n 0 := fun _ _ h => absurd h (Nat.lt_irrefl 0)
/-- Two debts above a level are above it together. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt at a cell whose level is above `n` is above `n`. -/
theorem above_tally {n : ℕ} (p : Dev nD) (k : KI) (N : ℕ) (h : n < lvS (some k)) : Above n (tallyAt (kcell (p, k)) () N) := fun g u hg => by
  rw [tallyAt_apply] at hg
  by_cases hh : g = kcell (p, k) ∧ u = ()
  · rw [hh.1]; exact ⟨rfl, by unfold lv; rw [kidx_csem]; exact h⟩
  · rw [if_neg hh] at hg; exact absurd hg (Nat.lt_irrefl 0)

/-- The three blocks are owed above level 2. -/
theorem above_owD {n : ℕ} (h : n < 3) (c : Dev nD) : Above n (owD c) :=
  above_add (above_add (above_add (above_zero n) (above_tally _ _ _ h)) (above_tally _ _ _ h)) (above_tally _ _ _ h)
/-- The maxima and the blocks are owed above level 1. -/
theorem above_owA {n : ℕ} (h : n < 2) (c : Dev nD) : Above n (owA c) :=
  above_add (above_add (above_add (above_owD (by omega) c) (above_tally _ _ _ h)) (above_tally _ _ _ h)) (above_tally _ _ _ h)
/-- All that is owed at launch is above level 0. -/
theorem above_owB (c : Dev nD) : Above 0 (owB c) :=
  above_add (above_add (above_add (above_owA (by decide) c) (above_tally _ _ _ Nat.one_pos)) (above_tally _ _ _ Nat.one_pos)) (above_tally _ _ _ Nat.one_pos)

/-- A device may wait on a semaphore of its own while it owes only above its level. -/
theorem mayWait_of (c : Dev nD) (sm : SemLoc sig) (O : CellTallies nD τ sig Unit) (h : Above (lvS (kidx sm)) O) :
    (levAts L lv : sProp 𝕄) ⊢ MayWait (c : Thread nD τ) sm () O :=
  MayOwe.of_cut (L := L) (lev := lv) (lvS (kidx sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

/-! ## The ghost state a device starts from -/

/-- The invariants of all cells, under the names `K` they were allocated at, and that round 0 of each is reached. -/
def records (K : Dev nD × KI → ℕ) : sProp 𝕄 :=
  iprop((bigSep Finset.univ fun ck : Dev nD × KI => cellInv ER (Rd m) (K ck) (kcell ck))
    ∗ bigSep Finset.univ fun ck : Dev nD × KI => reached ER (kcell ck) 0)

/-- The invariants may be used any number of times. -/
instance records_persistent (K : Dev nD × KI → ℕ) : BI.Persistent (records m K) := by unfold records; infer_instance

/-- The records give any one cell's invariant. -/
theorem inv_at (K : Dev nD × KI → ℕ) (ck : Dev nD × KI) : records m K ⊢ cellInv ER (Rd m) (K ck) (kcell ck) :=
  Entails.trans sep_elim_left (bigSep_elim (Finset.mem_univ ck))
/-- The records say that round 0 of any one cell is reached. -/
theorem reached_at (K : Dev nD × KI → ℕ) (ck : Dev nD × KI) : records m K ⊢ reached ER (kcell ck) 0 :=
  Entails.trans sep_elim_right (bigSep_elim (Finset.mem_univ ck))

/-- The duties, by kind (barrier, `aSend`, `aRecv`, `dSend`, `dRecv`) and distance less one, as a cell's owner lists them. -/
abbrev TI : Type := Fin 5 × Fin 3
/-- The cell's index and the duty's number of each duty that the owner `c` lists. -/
def tokK (c : Dev nD) : TI → KI × Fin 4
  | (0, j) => (none, j.succ)
  | (1, j) => (some (0, j.succ), 0)
  | (2, j) => (some (1, pl j.succ c), 0)
  | (3, j) => (some (2, j.succ), 0)
  | (4, j) => (some (3, pl j.succ c), 0)
/-- The token of a listed duty: cell, round, duty. -/
abbrev tokOf (ct : Dev nD × TI) : GSem nD τ sig × ℕ × Fin 4 := (kcell (ct.1, (tokK ct.1 ct.2).1), 0, (tokK ct.1 ct.2).2)

/-- Duty `t` as its payer, device `c`, lists it: the owner and the owner's name for it. -/
def payTo (ct : Dev nD × TI) : Dev nD × TI := match ct with
  | (c, (0, j)) => (pl j.succ c, (0, j))
  | (c, (1, j)) => (c, (1, j))
  | (c, (2, j)) => (pl j.succ c, (2, j.rev))
  | (c, (3, j)) => (c, (3, j))
  | (c, (4, j)) => (pl j.succ c, (4, j.rev))
/-- Duty `t` as its owner lists it, back to the payer and the payer's name for it. -/
def payFrom (ct : Dev nD × TI) : Dev nD × TI := match ct with
  | (c, (0, j)) => (pl (-j.succ) c, (0, j))
  | (c, (1, j)) => (c, (1, j))
  | (c, (2, j)) => (pl (-j.rev.succ) c, (2, j.rev))
  | (c, (3, j)) => (c, (3, j))
  | (c, (4, j)) => (pl (-j.rev.succ) c, (4, j.rev))
/-- From payer to owner and back is the same duty. -/
theorem payFrom_payTo (ct : Dev nD × TI) : payFrom (payTo ct) = ct := by revert ct; decide
/-- From owner to payer and back is the same duty. -/
theorem payTo_payFrom (ct : Dev nD × TI) : payTo (payFrom ct) = ct := by revert ct; decide
/-- Owners' and payers' lists of the duties correspond one to one. -/
def payEquiv : Dev nD × TI ≃ Dev nD × TI := ⟨payTo, payFrom, payFrom_payTo, payTo_payFrom⟩

/-- The tokens of the duties that device `c` pays. -/
def payToks (c : Dev nD) : sProp 𝕄 :=
  bigSep Finset.univ fun t : TI => dutyTok ER (tokOf (payTo (c, t))).1 0 (tokOf (payTo (c, t))).2.2
/-- Device `c`'s positions: round 0 of each of its cells. -/
def posAll (c : Dev nD) : sProp 𝕄 := bigSep Finset.univ fun k : KI => atPos ER (kcell (c, k)) 0 ∅ 0
/-- Its launch credit: three units of its barrier, an arrival on each other device's row and slab. -/
def creds (c : Dev nD) : sProp 𝕄 :=
  iprop(cred (tallyAt (bcell c) () 3)
    ∗ (bigSep Finset.univ fun j : Fin 3 => cred (tallyAt (dcell c 1 (pl j.succ c)) () NA))
    ∗ bigSep Finset.univ fun j : Fin 3 => cred (tallyAt (dcell c 3 (pl j.succ c)) () NQ))

/-- The protocol state from which device `c`'s body starts. -/
def ghost (K : Dev nD × KI → ℕ) (c : Dev nD) : sProp 𝕄 := iprop(records m K ∗ posAll c ∗ payToks c)

end Cert.KernelIdeal.Mesh

end
-- ==== Proof.Steps.lean ====
/-
# The kernel's statements between devices, one rule each

Each rule says what a device gives up and what it gets back at one statement of the protocol (module
`Protocol`), for any continuation of the program.
-/
module

public import proofs.«01_k».proof.Proof.Protocol
public import Idealize.ShloMosaic.Lib.Pipeline.Value
public import Idealize.ShloMosaic.Lib.ValueLayout

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-- No loop variants are needed. -/
abbrev 𝒱₀ : Variants := Variants.none

/-- The weakest precondition of a program on device `c`'s TensorCore. -/
abbrev wpC {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Contents that read the same are held the same -/

/-- Contents that a view reads alike agree on the view's elements. -/
theorem pts_congr_read {κ : Kind} {sp : Space} {s : Shape} {e : EltTy} (v : View sig κ sp s e) (c : Thread nD τ) (hκ : c.2.kind = κ) (q : PosShare TreeShare)
    (f g : v.ty.Contents (Elt F)) (h : v.read (Elt F) f = v.read (Elt F) g) :
    ∀ i ∈ v.set, f i = g i := fun i hi => by
  obtain ⟨x, -, rfl⟩ := Finset.mem_map.mp hi
  have hx := congrFun h x
  rw [View.read_apply, View.read_apply] at hx
  exact (cast_inj _).mp hx

/-- The distance back is not zero when the distance is not. -/
theorem neg_ne (i : Fin 4) (hi : i ≠ 0) : -i ≠ 0 := by revert i; decide
/-- Each non-zero distance is a duty of the barrier. -/
theorem mem_bar (c : Dev nD) (i : Fin 4) (hi : i ≠ 0) : i ∈ (Rd (F := F) m).duties (kcell (c, none)) 0 := by
  rw [duties_at]; show i ∈ ({1, 2, 3} : Finset (Fin 4)); revert i; decide
/-- A transfer semaphore with a duty has duty 0. -/
theorem mem_dma (c : Dev nD) (k : KI) (h : dutiesOf c k = {0}) : (0 : Fin 4) ∈ (Rd (F := F) m).duties (kcell (c, k)) 0 := by
  rw [duties_at, h]; exact Finset.mem_singleton_self _
/-- What yields a duty's hand-over yields the schedule's payload. -/
theorem pay_in {P : sProp 𝕄} (c : Dev nD) (k : KI) (d : Fin 4) (h : P ⊢ payOf m c d k) : P ⊢ (Rd (F := F) m).payload (kcell (c, k)) 0 d := by
  rw [payload_at]; exact h
/-- `i` places on and `i` back is the same device. -/
theorem pl_neg (i : Fin 4) (c : Dev nD) : pl (-i) (pl i c) = c := by revert i c; decide
/-- `i` places back and `i` on is the same device. -/
theorem pl_neg' (i : Fin 4) (c : Dev nD) : pl i (pl (-i) c) = c := by revert i c; decide
/-- A non-zero distance leads to another device. -/
theorem pl_ne (i : Fin 4) (hi : i ≠ 0) (c : Dev nD) : pl i c ≠ c := by revert i c; decide
/-- No device is a non-zero distance from itself. -/
theorem ne_pl (i : Fin 4) (hi : i ≠ 0) (c : Dev nD) : c ≠ pl i c := (pl_ne i hi c).symm

/-- Row `o` of all the maxima is device `o`'s. -/
theorem read_rxRow (o : Fin 4) : (rxRow o).view.read (Elt F) (amaxAll m) = amaxRow m o := by
  funext x
  have h0 : (x 0).val = 0 := by have h := (x 0).isLt; change (x 0).val < 1 at h; omega
  show amaxAll m ((rxRow o).view.emb x) = amaxRow m o x
  unfold amaxAll
  have e0 : ((rxRow o).view.emb x) 0 = o := Fin.ext (by
    show o.val + 1 * (x 0).val = o.val
    omega)
  have e1 : ((rxRow o).view.emb x) 1 = x 1 := Fin.ext (by
    show 0 + 1 * (x 1).val = (x 1).val
    omega)
  rw [e0, e1]
  congr 1
  funext a
  match a with
  | ⟨0, _⟩ => exact Fin.ext h0.symm
  | ⟨1, _⟩ => rfl

/-! ## The barrier -/

/-- The barrier signal to the device `i` places on pays the unit owed there, and hands over the row and the slab that device will write. -/
theorem step_signal (c n : Dev nD) (i : Fin 4) (hn : n = pl i c) (hi : i ≠ 0) {k' : ℤ} (hk : k' = ((1 : ℕ) : ℤ)) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (bcell (pl i c)) () 1) W ∗ dutyTok ER (bcell (pl i c)) 0 i
        ∗ (∃ f, rowPts c (pl i c) f) ∗ ∃ f, qrPts c (pl i c) f)
      ⊢ iprop((owes (c : Thread nD τ) O W -∗ wpC c (k ⟨⟩) Q) -∗ wpC c (.op (.semSignal (n : Thread nD τ) barS k') k) Q) := by
  subst hn hk
  iintro ⟨#HR, HO, Ht, Hrow, Hq⟩
  iapply (Rounds.wp_signal 𝒱₀ ER (Rd m) (c : Thread nD τ) none (dst := (pl i c : Thread nD τ)) (κ := K (pl i c, none))
      (d := i) (mem_bar m (pl i c) i hi)
      (amount_at m (pl i c) none i) () O rfl) $$ [HO Ht Hrow Hq]
  isplitr; · iapply (inv_at m K (pl i c, none)); iexact HR
  isplitl [HO]; · iexact HO
  isplitl [Ht]; · iexact Ht
  isplitl [Hrow Hq]
  · iapply (pay_in m (P := iprop((∃ f, rowPts c (pl i c) f) ∗ ∃ f, qrPts c (pl i c) f)) (pl i c) none i (by
      show _ ⊢ barPay (pl i c) i
      unfold barPay; rw [pl_neg]))
    isplitl [Hrow] <;> iassumption
  · iapply (reached_at m K (pl i c, none)); iexact HR

/-- The barrier's payloads are those of its three signals. -/
theorem bar_rest (c : Dev nD) :
    bigSep ((Rd (F := F) m).duties (bcell c) 0 \ ∅) (fun d => (Rd (F := F) m).payload (bcell c) 0 d) = iprop(barPay c 1 ∗ barPay c 2 ∗ barPay c 3) := by
  rw [rest_at, show dutiesOf c none = ({1, 2, 3} : Finset (Fin 4)) from rfl, bigSep_eq_bigSepL_of_eq [1, 2, 3] (by decide) (by decide)]; rfl

/-- The wait for three units of the barrier hands over what the three other devices' signals gave, when all that is owed lies above the barrier. -/
theorem step_barWait (c : Dev nD) {k' : ℤ} (hk : k' = ((3 : ℕ) : ℤ)) (O : CellTallies nD τ sig Unit) (hO : Above 1 O) (W : Waits sig Unit)
    {α : Type} {Q : α → sProp 𝕄} {k : PUnit → Prog (TpuEff nD τ sig (Elt F) Λ₀ .tc) α} :
    iprop(records m K ∗ levAts L lv ∗ cred (tallyAt (bcell c) () 3) ∗ owes (c : Thread nD τ) O W ∗ atPos ER (bcell c) 0 ∅ 0)
      ⊢ iprop(((∃ W, owes (c : Thread nD τ) O W) ∗ atPos ER (bcell c) (0 + 1) ∅ 0 ∗ barPay c 1 ∗ barPay c 2 ∗ barPay c 3 -∗ wpC c (k ⟨⟩) Q)
          -∗ wpC c (.op (.semWait barS k') k) Q) := by
  subst hk
  iintro ⟨#HR, #Hlev, Hc, HO, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [show ((c : Thread nD τ), SemLoc.reg barS) = kcell (c, none) from rfl, expect_at]; rfl)) $$ [Hc HO Hat]
  · isplitr; · iapply (inv_at m K (c, none)); iexact HR
    isplitl [Hc]; · iexact Hc
    isplitl [HO]; · iexact HO
    isplitr
    · iapply (mayWait_of c (.reg barS) O hO); iexact Hlev
    iexact Hat
  iintro ⟨HO, Hat, -, Hpay⟩
  ihave Hp := (Entails.of_eq (bar_rest m c)) $$ Hpay
  iapply Hk
  isplitl [HO]; · iexists _; iexact HO
  isplitl [Hat] <;> iassumption

/-! ## Waits on transfers -/

/-- The wait on a transfer cell that another device, or this one, credits: what the transfer handed over comes with it. -/
theorem step_wait (c : Dev nD) (kd i : Fin 4) (hd : dutiesOf c (some (kd, i)) = {0}) {sem : DmaSem sig} (hs : sem = dq kd i)
    {sp sp' : Space} {s s' : Shape} {e e' : EltTy} {κ' : Kind} {srcw : Memref sig .tc sp' s' e'} {dstw : Memref sig κ' sp s e}
    {hsrc : srcw.view.WordExact} {hdst : dstw.view.WordExact} {N : ℕ} (hN : dstw.view.dmaCredit = N) (hA : amountOf (some (kd, i)) = N)
    (O : CellTallies nD τ sig Unit) (hO : Above (lvS (some (some (kd, i)))) O) (W : Waits sig Unit)
    {α : Type} {Q : α → sProp 𝕄} {k : PUnit → Prog (TpuEff nD τ sig (Elt F) Λ₀ .tc) α} :
    iprop(records m K ∗ levAts L lv ∗ cred (tallyAt (dcell c kd i) () N) ∗ owes (c : Thread nD τ) O W ∗ atPos ER (dcell c kd i) 0 ∅ 0)
      ⊢ iprop(((∃ W, owes (c : Thread nD τ) O W) ∗ atPos ER (dcell c kd i) (0 + 1) ∅ 0 ∗ payOf m c 0 (some (kd, i)) -∗ wpC c (k ⟨⟩) Q)
          -∗ wpC c (.op (.waitDma2 sem srcw dstw hsrc hdst) k) Q) := by
  subst hs hN
  iintro ⟨#HR, #Hlev, Hc, HO, Hat⟩ Hk
  iapply (Rounds.wp_wait_rest_token 𝒱₀ ER (Rd m) (c : Thread nD τ) none (κ := K (c, some (kd, i)))
      (wpE_waitDma2_eq 𝒱₀ (c : Thread nD τ) none Set.univ) (Set.mem_univ _) () (O := O) (W := W) (R := 0) (m := 0) (T := ∅)
      (by rw [show ((c : Thread nD τ), SemLoc.dma (dq kd i)) = kcell (c, some (kd, i)) from rfl, expect_at, hd, hA, Finset.card_singleton, Nat.one_mul, Nat.zero_add])) $$ [Hc HO Hat]
  · isplitr; · iapply (inv_at m K (c, some (kd, i))); iexact HR
    isplitl [Hc]; · iexact Hc
    isplitl [HO]; · iexact HO
    isplitr
    · iapply (mayWait_of c (.dma (dq kd i)) O (by rw [show kidx (SemLoc.dma (dq kd i)) = some (some (kd, i)) from kidx_csem (some (kd, i))]; exact hO)); iexact Hlev
    iexact Hat
  iintro ⟨HO, Hat, -, Hpay⟩
  ihave Hp := (Entails.of_eq ((rest_at m c (some (kd, i))).trans (by rw [hd, bigSep_singleton]))) $$ Hpay
  iapply Hk
  isplitl [HO]; · iexists _; iexact HO
  isplitl [Hat] <;> iassumption

/-! ## Transfers to another device -/

/-- A row of maxima at an offset that is the device's number is that device's row. -/
theorem rxRow_eq (c : Dev nD) {off : Fin 2 → ℕ} (ho : off = ![c.val, 0]) (inb : ∀ a, off a + S1x128.size a ≤ S4x128.size a) :
    (rxV.slice (Rect.unit (s := S4x128) off S1x128.size inb) (fun _ => rfl) : Memref sig .tc .vmem S1x128 .f32) = rxRow c := by
  subst ho; rfl
/-- Each row of maxima has the one credit. -/
theorem rxRow_credit (o : Fin 4) : (rxRow o).view.dmaCredit = NA := rfl

/-- The send of the row of maxima to the device `i` places on. -/
theorem step_sendA (c n : Dev nD) (i : Fin 4) (hn : n = pl i c) (hi : i ≠ 0) {sS sR : DmaSem sig} (hS : sS = dq 0 i) (hR : sR = dq 1 c)
    {dst : Memref sig .tc .vmem S1x128 .f32} (hd : dst = rxRow c)
    {hsc : (dst : Memref sig (Dev.tc n : Thread nD τ).2.kind .vmem S1x128 .f32).view.ref.isScScratch = false}
    {hsrc : (txV : Memref sig .tc .vmem S1x128 .f32).view.WordExact} {hdst : dst.view.WordExact}
    {hsem : DmaTarget.Typed .vmem (.dma sR) (.remote (Dev.tc n : Thread nD τ) dst (.dma sS) hsc)}
    (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (dcell (pl i c) 1 c) () NA) W ∗ dutyTok ER (dcell c 0 i) 0 0
        ∗ dutyTok ER (dcell (pl i c) 1 c) 0 0 ∗ txPts m c i.val ∗ (∃ f, rowPts (pl i c) c f))
      ⊢ iprop((cred (tallyAt (dcell c 0 i) () NA) ∗ owes (c : Thread nD τ) O W -∗ wpC c (k ⟨⟩) Q)
          -∗ wpC c (.op (.enqueueDma txV (.remote (Dev.tc n : Thread nD τ) dst (.dma sS) hsc) (.dma sR) hsrc hdst hsem) k) Q) := by
  subst hn hS hR hd
  iintro ⟨#HR, HO, Ht, Ht', Htx, ⟨%fd, Hrow⟩⟩
  unfold txPts rowPts
  iapply (Rounds.wp_send_pointsTo 𝒱₀ ER (Rd m) (c : Thread nD τ) none (κ₁ := K (c, some (0, i))) (κ₂ := K (pl i c, some (1, c)))
    (r₁ := 0) (r₂ := 0) (d₁ := 0) (d₂ := 0) (fd := fd)
    (mem_dma m c (some (0, i)) (if_neg hi)) (mem_dma m (pl i c) (some (1, c)) (if_neg (ne_pl i hi c)))
    () () NA (rxRow_credit c) (amount_at m c (some (0, i)) 0) (amount_at m (pl i c) (some (1, c)) 0) O rfl (W := W)
    (pay_in m c (some (0, i)) 0 (Entails.refl _))
    (pay_in m (pl i c) (some (1, c)) 0 (by
        show _ ⊢ rowPts (pl i c) c (amaxAll m)
        unfold rowPts
        exact Entails.of_eq (pointsTo_congr (pts_congr_read (rxRow c).view (Dev.tc (pl i c) : Thread nD τ) rfl fullShare _ _ (by
          rw [View.read_write_univ, read_rxRow]; rfl)))))) $$ [HO Ht Ht' Htx Hrow]
  isplitr; · iapply (inv_at m K (c, some (0, i))); iexact HR
  isplitr; · iapply (inv_at m K (pl i c, some (1, c))); iexact HR
  isplitl [Htx]; · iexact Htx
  isplitl [Hrow]; · iexact Hrow
  isplitl [HO]; · iexact HO
  isplitl [Ht]; · iexact Ht
  isplitr; · iapply (reached_at m K (c, some (0, i))); iexact HR
  isplitl [Ht']; · iexact Ht'
  iapply (reached_at m K (pl i c, some (1, c))); iexact HR

/-- A slab at an offset that is the device's number is that device's slab. -/
theorem slab_eq (M : Memref sig .tc .vmem S4x1024x512 .i8) (c : Fin 4) {off : Fin 3 → ℕ} (ho : off = ![c.val, 0, 0]) (inb : ∀ a, off a + S1x1024x512.size a ≤ S4x1024x512.size a) :
    (M.slice (Rect.unit (s := S4x1024x512) off S1x1024x512.size inb) (fun _ => rfl)).squeeze S1024x512 squeezes_S1x1024x512_S1024x512 = slab M c := by
  subst ho; rfl
/-- Each slab has the one credit. -/
theorem qrRow_credit (o : Fin 4) : (qrRow o).view.dmaCredit = NQ := rfl

/-- Slab `i` of a buffer, read. -/
theorem read_slab (M : Memref sig .tc .vmem S4x1024x512 .i8) (i : Fin 4) (f : M.view.ty.Contents (Elt F)) (x : Fin 1024) (y : Fin 512) :
    (slab M i).view.read (Elt F) f (ix2 (n0 := 1024) (n1 := 512) x y) = M.view.read (Elt F) f (ix3 (n0 := 4) (n1 := 1024) (n2 := 512) i x y) := by
  have h : Shape.reshapeEquiv (squeezes_S1x1024x512_S1024x512).numel_eq (ix2 (n0 := 1024) (n1 := 512) x y) = ix3 (⟨0, Nat.one_pos⟩ : Fin 1) x y :=
    reshapeEquiv_ix2_1ab _ x y
  show M.view.read (Elt F) f ((Rect.unit (s := S4x1024x512) ![i.val, 0, 0] S1x1024x512.size (slab_inb i)).emb
    (Shape.reshapeEquiv (squeezes_S1x1024x512_S1024x512).numel_eq (ix2 (n0 := 1024) (n1 := 512) x y))) = _
  rw [h]
  congr 1
  funext a
  match a with
  | ⟨0, _⟩ => exact Fin.ext (by show i.val + 1 * 0 = i.val; omega)
  | ⟨1, _⟩ => exact Fin.ext (by show 0 + 1 * x.val = x.val; omega)
  | ⟨2, _⟩ => exact Fin.ext (by show 0 + 1 * y.val = y.val; omega)

/-- Slab `o` of what lands on device `p` is block `p` of device `o`. -/
theorem read_qrRow (p o : Fin 4) : (qrRow o).view.read (Elt F) (qAll m p) = qBlk m o p := by
  funext x
  rw [eq_ix2 x]
  exact read_slab qrV o (qAll m p) (x 0) (x 1)

/-- The send of the quantised block of the device `i` places on, into its slab `c`. -/
theorem step_sendQ (c n : Dev nD) (i : Fin 4) (hn : n = pl i c) (hi : i ≠ 0) {sS sR : DmaSem sig} (hS : sS = dq 2 i) (hR : sR = dq 3 c)
    {dst : Memref sig .tc .vmem S1024x512 .i8} (hd : dst = qrRow c)
    {hsc : (dst : Memref sig (Dev.tc n : Thread nD τ).2.kind .vmem S1024x512 .i8).view.ref.isScScratch = false}
    {hsrc : (qtRow i).view.WordExact} {hdst : dst.view.WordExact}
    {hsem : DmaTarget.Typed .vmem (.dma sR) (.remote (Dev.tc n : Thread nD τ) dst (.dma sS) hsc)}
    (O : CellTallies nD τ sig Unit) (W : Waits sig Unit) (f : Buf (Elt F) ((qtRow i).view.loc (c : Thread nD τ)))
    (hf : (qtRow i).view.read (Elt F) f = qBlk m c (pl i c))
    {α : Type} {Q : α → sProp 𝕄} {k : PUnit → Prog (TpuEff nD τ sig (Elt F) Λ₀ .tc) α} :
    iprop(records m K ∗ owes (c : Thread nD τ) (O + tallyAt (dcell (pl i c) 3 c) () NQ) W ∗ dutyTok ER (dcell c 2 i) 0 0
        ∗ dutyTok ER (dcell (pl i c) 3 c) 0 0 ∗ ((qtRow i).view.loc (c : Thread nD τ) ↦[(qtRow i).view.set]{fullShare} f) ∗ ∃ f, qrPts (pl i c) c f)
      ⊢ iprop((cred (tallyAt (dcell c 2 i) () NQ) ∗ owes (c : Thread nD τ) O W -∗ wpC c (k ⟨⟩) Q)
          -∗ wpC c (.op (.enqueueDma (qtRow i) (.remote (Dev.tc n : Thread nD τ) dst (.dma sS) hsc) (.dma sR) hsrc hdst hsem) k) Q) := by
  subst hn hS hR hd
  iintro ⟨#HR, HO, Ht, Ht', Hq, ⟨%fd, Hr⟩⟩
  unfold qrPts
  iapply (Rounds.wp_send_pointsTo 𝒱₀ ER (Rd m) (c : Thread nD τ) none (κ₁ := K (c, some (2, i))) (κ₂ := K (pl i c, some (3, c)))
    (r₁ := 0) (r₂ := 0) (d₁ := 0) (d₂ := 0) (fd := fd)
    (mem_dma m c (some (2, i)) (if_neg hi)) (mem_dma m (pl i c) (some (3, c)) (if_neg (ne_pl i hi c)))
    () () NQ (qrRow_credit c) (amount_at m c (some (2, i)) 0) (amount_at m (pl i c) (some (3, c)) 0) O rfl (W := W)
    (pay_in m c (some (2, i)) 0 (by
        show _ ⊢ qtPts c i
        unfold qtPts; iintro H; iexists f; iexact H))
    (pay_in m (pl i c) (some (3, c)) 0 (by
        show _ ⊢ qrPts (pl i c) c (qAll m (pl i c))
        unfold qrPts
        exact Entails.of_eq (pointsTo_congr (pts_congr_read (qrRow c).view (Dev.tc (pl i c) : Thread nD τ) rfl fullShare _ _ (by
          rw [View.read_write_univ, read_qrRow, hf])))))) $$ [HO Ht Ht' Hq Hr]
  isplitr; · iapply (inv_at m K (c, some (2, i))); iexact HR
  isplitr; · iapply (inv_at m K (pl i c, some (3, c))); iexact HR
  isplitl [Hq]; · iexact Hq
  isplitl [Hr]; · iexact Hr
  isplitl [HO]; · iexact HO
  isplitl [Ht]; · iexact Ht
  isplitr; · iapply (reached_at m K (c, some (2, i))); iexact HR
  isplitl [Ht']; · iexact Ht'
  iapply (reached_at m K (pl i c, some (3, c))); iexact HR

/-- A cell whose round is over, or that never had a duty, closes: its counter is at zero. -/
theorem close_cell (c : Dev nD) (k : KI) (R : ℕ) (hR : ∀ r, R ≤ r → (Rd (F := F) m).duties (kcell (c, k)) r = ∅) :
    iprop(records m K ∗ atPos ER (kcell (c, k)) R ∅ 0) ⊢ iprop(|={Set.univ}=> semVal (kcell (c, k)) 0) := by
  iintro ⟨#HR, Hat⟩
  iapply (Rounds.cell_close ER (Rd m) (Set.mem_univ (K (c, k))) (fun h => h) (R := R) hR)
  isplitr; · iapply (inv_at m K (c, k)); iexact HR
  iexact Hat

/-- A cell without duties at round 0 has none at any round. -/
theorem duties_none (c : Dev nD) (k : KI) (h : dutiesOf c k = ∅) : ∀ r, 0 ≤ r → (Rd (F := F) m).duties (kcell (c, k)) r = ∅ := fun r _ => by
  rcases Nat.eq_zero_or_pos r with rfl | hr
  · rw [duties_at, h]
  · exact duties_later m _ r hr

end Cert.KernelIdeal.Mesh

end
-- ==== Proof.Front.lean ====
/-
# The kernel's statements on its own buffers

The printed body is cut in fourteen parts. This module fixes each at the buffers the launch passes, names
the rest of the body from the sixth part on, and runs the first five parts: the operands' copies, the entry
barrier, and the product of the device's rows with the right operand.
-/
module

public import proofs.«01_k».proof.Proof.Steps
public import Idealize.ShloMosaic.Lib.Tactic
public import Idealize.ShloMosaic.Lib.VecWindow
public import Idealize.ShloMosaic.Lib.ValueLayout

@[expose] public section

noncomputable section

namespace Cert.KernelIdeal.Mesh

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-! ## The parts at the launch's buffers -/

/-- Part 1 of the body, at the launch's buffers. -/
abbrev part1  : Prog (TpuEff nD τ sig (Elt F) Λ₀ .tc) (Σ' (_ : Dev nD) (_ : BitVec 32), Sems sig S_) :=
  k0_part1 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15
/-- Part 2 of the body, at the launch's buffers. -/
abbrev part2 (d0 : Dev nD) (v2 : BitVec 32) (v17 : Sems sig S_) : Prog (TpuEff nD τ sig (Elt F) Λ₀ .tc) (F .f32) :=
  k0_part2 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v17
/-- Part 3 of the body, at the launch's buffers. -/
abbrev part3  : Prog (TpuEff nD τ sig (Elt F) Λ₀ .tc) (Σ' (_ : F .f32), F .f32) :=
  k0_part3 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15
/-- Part 4 of the body, at the launch's buffers. -/
abbrev part4  : Prog (TpuEff nD τ sig (Elt F) Λ₀ .tc) (Σ' (_ : F .f32) (_ : F .f32) (_ : Vec F S512x4096 .f32), Vec F S4096x512 .f32) :=
  k0_part4 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15
/-- Part 5 of the body, at the launch's buffers. -/
abbrev part5 (v108 : Vec F S512x4096 .f32) (v109 : Vec F S4096x512 .f32) : Prog (TpuEff nD τ sig (Elt F) Λ₀ .tc) (Σ' (_ : F .f32) (_ : F .f32), FVec F S1x512x512 .f32) :=
  k0_part5 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 v108 v109
/-- Part 6 of the body, at the launch's buffers. -/
abbrev part6 (d0 : Dev nD) (v2 : BitVec 32) (a b c d e f g : F .f32) (h : FVec F S1x512x512 .f32) : Prog (TpuEff nD τ sig (Elt F) Λ₀ .tc) (Σ' (_ : BitVec 32), BitVec 32) :=
  k0_part6 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 a b c d e f g h
/-- Part 7 of the body, at the launch's buffers. -/
abbrev part7 (d0 : Dev nD) (v2 v178 w : BitVec 32) : Prog (TpuEff nD τ sig (Elt F) Λ₀ .tc) (FVec F S1x4x128 .f32) :=
  k0_part7 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v178 w
/-- Part 8 of the body, at the launch's buffers. -/
abbrev part8 (d0 : Dev nD) (v2 : BitVec 32) (v209 : FVec F S1x4x128 .f32) : Prog (TpuEff nD τ sig (Elt F) Λ₀ .tc) (Σ' (_ : F .f32) (_ : F .f32) (_ : BitVec 32), Vec F S1x1024x512 .f32) :=
  k0_part8 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v209
/-- Part 9 of the body, at the launch's buffers. -/
abbrev part9 (d0 : Dev nD) (v2 : BitVec 32) (v214 : F .f32) (v242 : BitVec 32) (v244 : Vec F S1x1024x512 .f32) : Prog (TpuEff nD τ sig (Elt F) Λ₀ .tc) (Σ' (_ : BitVec 32) (_ : IVec S1024x512 8), Vec F S1x1024x512 .i8) :=
  k0_part9 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v214 v242 v244
/-- Part 10 of the body, at the launch's buffers. -/
abbrev part10 (d0 : Dev nD) (v2 : BitVec 32) (v213 v214 : F .f32) (v268 : BitVec 32) (v279 : IVec S1024x512 8) (v280 : Vec F S1x1024x512 .i8) : Prog (TpuEff nD τ sig (Elt F) Λ₀ .tc) (BitVec 32) :=
  k0_part10 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v213 v214 v268 v279 v280
/-- Part 11 of the body, at the launch's buffers. -/
abbrev part11 (d0 : Dev nD) (v2 : BitVec 32) (v213 : F .f32) (v314 : BitVec 32) : Prog (TpuEff nD τ sig (Elt F) Λ₀ .tc) (BitVec 32) :=
  k0_part11 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v213 v314
/-- Part 12 of the body, at the launch's buffers. -/
abbrev part12 (d0 : Dev nD) (v2 : BitVec 32) (v213 : F .f32) (v338 : BitVec 32) : Prog (TpuEff nD τ sig (Elt F) Λ₀ .tc) (Σ' (_ : BitVec 32), FVec F S1024x512 .f32) :=
  k0_part12 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2 v213 v338
/-- Part 13 of the body, at the launch's buffers. -/
abbrev part13 (d0 : Dev nD) (v362 : BitVec 32) (v376 : FVec F S1024x512 .f32) : Prog (TpuEff nD τ sig (Elt F) Λ₀ .tc) PUnit :=
  k0_part13 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v362 v376
/-- Part 14 of the body, at the launch's buffers. -/
abbrev part14 (d0 : Dev nD) (v2 : BitVec 32) : Prog (TpuEff nD τ sig (Elt F) Λ₀ .tc) PUnit :=
  k0_part14 aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15 d0 v2

/-- The last wait. -/
def tailWait (d0 : Dev nD) : Prog (TpuEff nD τ sig (Elt F) Λ₀ .tc) PUnit := do
  let v431 : DmaSems sig S1 := cc0_scratch12.slice (Rect.unit (s := S4) ![3] S1.size inb_S4_S1_3)
  let v432 : DmaSems sig S_ := v431.squeeze S_ squeezes_S1_S_
  let v433 : Memref sig .tc .vmem S1x128 .f32 := rxV.slice (Rect.unit (s := S4x128) (k0_off3 d0) S1x128.size (k0_off3_inb d0)) (fun _ => rfl)
  Prog.lift (.waitDma2 v432.sem v433 txV (View.wordExact_bits rfl) (Memref.isWhole_whole _).wordExact)
  pure ⟨⟩

/-- The body from its tenth part on. -/
def bodyOut (d0 : Dev nD) (v2 : BitVec 32) (v213 v214 : F .f32) (v268 : BitVec 32) (v279 : IVec S1024x512 8) (v280 : Vec F S1x1024x512 .i8) :
    Prog (TpuEff nD τ sig (Elt F) Λ₀ .tc) PUnit := do
  let v314 ← part10 d0 v2 v213 v214 v268 v279 v280
  let v338 ← part11 d0 v2 v213 v314
  let ⟨v362, v376⟩ ← part12 d0 v2 v213 v338
  part13 d0 v362 v376
  part14 d0 v2
  tailWait d0

/-- The body from its eighth part on. -/
def bodySend (d0 : Dev nD) (v2 : BitVec 32) (v209 : FVec F S1x4x128 .f32) : Prog (TpuEff nD τ sig (Elt F) Λ₀ .tc) PUnit := do
  let ⟨v213, v214, v242, v244⟩ ← part8 d0 v2 v209
  let ⟨v268, v279, v280⟩ ← part9 d0 v2 v214 v242 v244
  bodyOut d0 v2 v213 v214 v268 v279 v280

/-- The body from its sixth part on. -/
def bodyBack (d0 : Dev nD) (v2 : BitVec 32) (a b c d e f g : F .f32) (h : FVec F S1x512x512 .f32) : Prog (TpuEff nD τ sig (Elt F) Λ₀ .tc) PUnit := do
  let ⟨v178, w⟩ ← part6 d0 v2 a b c d e f g h
  let v209 ← part7 d0 v2 v178 w
  bodySend d0 v2 v209

/-- The body at the launch's buffers. -/
abbrev body : Prog (TpuEff nD τ sig (Elt F) Λ₀ .tc) PUnit :=
  cc0_body aM (Memref.isWhole_whole _) wM (Memref.isWhole_whole _) oM (Memref.isWhole_whole _) xV (Memref.isWhole_whole _) yV (Memref.isWhole_whole _) waV (Memref.isWhole_whole _) wbV (Memref.isWhole_whole _)
    txV (Memref.isWhole_whole _) rxV (Memref.isWhole_whole _) qtV (Memref.isWhole_whole _) qrV (Memref.isWhole_whole _) stV (Memref.isWhole_whole _)
    cc0_scratch9 cc0_scratch10 cc0_scratch11 cc0_scratch12 cc0_scratch13 cc0_scratch14 cc0_scratch15
/-- The body as its first five parts and the rest. -/
def bodyFront : Prog (TpuEff nD τ sig (Elt F) Λ₀ .tc) PUnit := do
  let ⟨d0, v2, v17⟩ ← part1
  let v47 ← part2 d0 v2 v17
  let ⟨v65, v79⟩ ← part3
  let ⟨v93, v107, v108, v109⟩ ← part4
  let ⟨v118, v132, v140⟩ ← part5 v108 v109
  bodyBack d0 v2 v47 v65 v79 v93 v107 v118 v132 v140
/-- The body is its parts, one after another. -/
theorem body_eq : body (F := F) = bodyFront := by unfold body; rw [cc0_body_eq_skeleton]; rfl

/-! ## The first five parts -/

/-- A buffer of device `c` held whole. -/
abbrev pt {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f
/-- Transfer semaphore `i` of a device. -/
abbrev lsem (i : Fin 24) : SemLoc sig := .dma i

/-- The upper half of a buffer shaped as the left operand, -/
abbrev xTop {sp : Space} (M : Memref sig .tc sp S1024x4096 .f32) : Memref sig .tc sp S512x4096 .f32 :=
  M.slice (Rect.unit (s := S1024x4096) ![0, 0] S512x4096.size inb_S1024x4096_S512x4096_0_0) (fun _ => rfl)
/-- and the lower. -/
abbrev xBot {sp : Space} (M : Memref sig .tc sp S1024x4096 .f32) : Memref sig .tc sp S512x4096 .f32 :=
  M.slice (Rect.unit (s := S1024x4096) ![512, 0] S512x4096.size inb_S1024x4096_S512x4096_512_0) (fun _ => rfl)

/-- A device may wait for a local copy while it owes the maxima and the blocks. -/
theorem mayWait_local (c : Dev nD) (i : Fin 24) (hi : i.val < 8) : (levAts L lv : sProp 𝕄) ⊢ MayWait (c : Thread nD τ) (lsem i) () (owA c) :=
  mayWait_of c _ _ (by rw [show kidx (lsem i) = none from dif_neg (by show ¬ 8 ≤ i.val; omega)]; exact above_owA (by decide) c)

/-! ### What the loads read -/

/-- A view written whole reads as what was written. -/
theorem read_over {κ : Kind} {sp : Space} {sh : Shape} {e : EltTy} (v : View sig κ sp sh e) (f : v.ty.Contents (Elt F)) (w : sh.Idx → Elt F e)
    (L : List (View.Piece (Elt F) sh e)) : v.read (Elt F) (v.writes (Elt F) f (⟨Rect.whole sh, w⟩ :: L)) = w :=
  View.read_writes_full v f (off := fun _ => 0) (fun _ => by simp) w L

/-- A load of the upper half reads what was copied there. -/
theorem load_top (w : Vec F S512x4096 .f32) :
    View.readAt (Elt F) xV.view (Rect.unit (s := S1024x4096) ![0, 0] S512x4096.size inb_S1024x4096_S512x4096_0_0).toLoadRect
      ((xTop xV).view.writes (Elt F) (xTop xV).view.junk [⟨Rect.whole S512x4096, w⟩]) = w := by
  rw [View.readAt_rect]
  exact read_over (xTop xV).view _ w []
/-- A load of the lower half reads what was copied there. -/
theorem load_bot (w : Vec F S512x4096 .f32) :
    View.readAt (Elt F) xV.view (Rect.unit (s := S1024x4096) ![512, 0] S512x4096.size inb_S1024x4096_S512x4096_512_0).toLoadRect
      ((xBot xV).view.writes (Elt F) (xBot xV).view.junk [⟨Rect.whole S512x4096, w⟩]) = w := by
  rw [View.readAt_rect]
  exact read_over (xBot xV).view _ w []
/-- A load of a column block's buffer reads what was last copied there. -/
theorem load_w (M : Memref sig .tc .vmem S4096x512 .f32) (w : Vec F S4096x512 .f32) (L : List (View.Piece (Elt F) S4096x512 .f32)) :
    M.view.readCov (⟨Rect.whole S4096x512, w⟩ :: L) (Rect.unit (s := S4096x512) ![0, 0] S4096x512.size inb_S4096x512_S4096x512_0_0).toLoadRect = w := by
  unfold View.readCov
  rw [View.readAt_full]
  exact read_over M.view _ w L

/-- A copied column block, and a copied half, are the launch memory's. -/
theorem copy_w (c : Dev nD) (j : Fin 4) {off : Fin 2 → ℕ} (ho : off = ![0, 512 * j.val]) {inb : ∀ a, off a + S4096x512.size a ≤ S4096x2048.size a} :
    (ReadAs.same.apply ((wM.slice (Rect.unit (s := S4096x2048) off S4096x512.size inb) (fun _ => rfl)).view.read (Elt F) (m ((c : Thread nD τ).loc main_arg1)))
      : Vec F S4096x512 .f32) = wc m c j := by
  subst ho; rfl
/-- A copied half of the rows is the launch memory's. -/
theorem copy_x (c : Dev nD) (h : Fin 2) {off : Fin 2 → ℕ} (ho : off = ![512 * h.val, 0]) {inb : ∀ a, off a + S512x4096.size a ≤ S1024x4096.size a} :
    (ReadAs.same.apply ((aM.slice (Rect.unit (s := S1024x4096) off S512x4096.size inb) (fun _ => rfl)).view.read (Elt F) (m ((c : Thread nD τ).loc main_arg0)))
      : Vec F S512x4096 .f32) = xh m c h := by
  subst ho; rfl

/-- A stored half block is the product there. -/
theorem store_y (c : Dev nD) (j : Fin 4) (h : Fin 2) (inb : ∀ a, (![j.val, 512 * h.val, 0] : Fin 3 → ℕ) a + S1x512x512.size a ≤ S4x1024x512.size a)
    (x : S1x512x512.Idx) :
    k0_pay2 (xh m c h) (wc m c j) x = yFull m c ((Rect.unit (s := S4x1024x512) ![j.val, 512 * h.val, 0] S1x512x512.size inb).emb x) := by
  have h0 : (x 0).val = 0 := by have h := (x 0).isLt; change (x 0).val < 1 at h; omega
  have h1 : (x 1).val < 512 := (x 1).isLt
  have hh := h.isLt
  unfold k0_pay2 yFull
  show shapeCast S1x512x512 (blk m c j h) _ x = _
  refine (shapeCast_addUnit_apply ![512, 512] (blk m c j h) shapeCasts_S512x512_S1x512x512 x).trans ?_
  have e0 : ((Rect.unit (s := S4x1024x512) ![j.val, 512 * h.val, 0] S1x512x512.size inb).emb x) 0 = j := Fin.ext (by
    show j.val + 1 * (x 0).val = j.val; omega)
  have v1 : (((Rect.unit (s := S4x1024x512) ![j.val, 512 * h.val, 0] S1x512x512.size inb).emb x) 1).val = 512 * h.val + (x 1).val := by
    show 512 * h.val + 1 * (x 1).val = _; omega
  have e2 : ((Rect.unit (s := S4x1024x512) ![j.val, 512 * h.val, 0] S1x512x512.size inb).emb x) 2 = x 2 := Fin.ext (by
    show 0 + 1 * (x 2).val = (x 2).val; omega)
  rw [e0]
  congr 1
  · exact Fin.ext (by show h.val = _ / 512; rw [v1]; omega)
  · funext a
    match a with
    | ⟨0, _⟩ => exact Fin.ext (by show (x 1).val = _ % 512; rw [v1]; omega)
    | ⟨1, _⟩ => exact e2.symm

/-- The eight half blocks as the body stores them, the last first. -/
def yPieces (c : Dev nD) : List (View.Piece (Elt F) S4x1024x512 .f32) :=
  [⟨Rect.unit ![3, 512, 0] S1x512x512.size inb_S4x1024x512_S1x512x512_3_512_0, k0_pay23 (xh m c 1) (wc m c 3)⟩,
   ⟨Rect.unit ![3, 0, 0] S1x512x512.size inb_S4x1024x512_S1x512x512_3_0_0, k0_pay20 (xh m c 0) (wc m c 3)⟩,
   ⟨Rect.unit ![2, 512, 0] S1x512x512.size inb_S4x1024x512_S1x512x512_2_512_0, k0_pay17 (xh m c 1) (wc m c 2)⟩,
   ⟨Rect.unit ![2, 0, 0] S1x512x512.size inb_S4x1024x512_S1x512x512_2_0_0, k0_pay14 (xh m c 0) (wc m c 2)⟩,
   ⟨Rect.unit ![1, 512, 0] S1x512x512.size inb_S4x1024x512_S1x512x512_1_512_0, k0_pay11 (xh m c 1) (wc m c 1)⟩,
   ⟨Rect.unit ![1, 0, 0] S1x512x512.size inb_S4x1024x512_S1x512x512_1_0_0, k0_pay8 (xh m c 0) (wc m c 1)⟩,
   ⟨Rect.unit ![0, 512, 0] S1x512x512.size inb_S4x1024x512_S1x512x512_0_512_0, k0_pay5 (xh m c 1) (wc m c 0)⟩,
   ⟨Rect.unit ![0, 0, 0] S1x512x512.size inb_S4x1024x512_S1x512x512_0_0_0, k0_pay2 (xh m c 0) (wc m c 0)⟩]

/-- Each stored half block agrees with the product. -/
theorem yPieces_at (c : Dev nD) : ∀ p ∈ yPieces m c, ∀ x : p.1.shape.Idx, p.2 x = yFull m c (p.1.emb x) := by
  unfold yPieces
  simp only [List.forall_mem_cons, List.not_mem_nil, false_imp_iff, implies_true, and_true]
  exact ⟨store_y m c 3 1 _, store_y m c 3 0 _, store_y m c 2 1 _, store_y m c 2 0 _, store_y m c 1 1 _, store_y m c 1 0 _,
    store_y m c 0 1 _, store_y m c 0 0 _⟩

/-- An index with block `j` and half `h` lies in that half block. -/
theorem mem_half (j h : ℕ) (o : Fin 3 → ℕ) (ho : o = ![j, 512 * h, 0]) (inb : ∀ a, o a + S1x512x512.size a ≤ S4x1024x512.size a)
    (y : S4x1024x512.Idx) (h0 : (y 0).val = j) (h1 : (y 1).val / 512 = h) : y ∈ (Rect.unit (s := S4x1024x512) o S1x512x512.size inb).set := by
  subst ho
  have hy2 : (y 2).val < 512 := (y 2).isLt
  rw [Rect.mem_set_unit]
  intro a
  match a with
  | ⟨0, _⟩ => show j ≤ (y 0).val ∧ (y 0).val < j + 1; omega
  | ⟨1, _⟩ => show 512 * h ≤ (y 1).val ∧ (y 1).val < 512 * h + 512; omega
  | ⟨2, _⟩ => show 0 ≤ (y 2).val ∧ (y 2).val < 0 + 512; omega

/-- Every index of the product lies in a stored half block. -/
theorem yPieces_cover (c : Dev nD) (y : S4x1024x512.Idx) : ∃ p ∈ yPieces m c, y ∈ p.1.set := by
  have hy0 : (y 0).val < 4 := (y 0).isLt
  have hy1 : (y 1).val < 1024 := (y 1).isLt
  unfold yPieces
  simp only [List.mem_cons, exists_eq_or_imp]
  have h1 : (y 1).val / 512 = 0 ∨ (y 1).val / 512 = 1 := by omega
  have h0 : (y 0).val = 0 ∨ (y 0).val = 1 ∨ (y 0).val = 2 ∨ (y 0).val = 3 := by omega
  obtain h0 | h0 | h0 | h0 := h0 <;> obtain h1 | h1 := h1
  · exact .inr (.inr (.inr (.inr (.inr (.inr (.inr (.inl (mem_half 0 0 _ rfl _ y h0 h1))))))))
  · exact .inr (.inr (.inr (.inr (.inr (.inr (.inl (mem_half 0 1 _ rfl _ y h0 h1)))))))
  · exact .inr (.inr (.inr (.inr (.inr (.inl (mem_half 1 0 _ rfl _ y h0 h1))))))
  · exact .inr (.inr (.inr (.inr (.inl (mem_half 1 1 _ rfl _ y h0 h1)))))
  · exact .inr (.inr (.inr (.inl (mem_half 2 0 _ rfl _ y h0 h1))))
  · exact .inr (.inr (.inl (mem_half 2 1 _ rfl _ y h0 h1)))
  · exact .inr (.inl (mem_half 3 0 _ rfl _ y h0 h1))
  · exact .inl (mem_half 3 1 _ rfl _ y h0 h1)

/-- Stored, they are the product. -/
theorem y_done (c : Dev nD) (f : Buf (Elt F) (yV.view.loc (c : Thread nD τ))) :
    pt c yV (yV.view.writes (Elt F) f (yPieces m c)) = pt (F := F) c yV (yFull m c) :=
  pointsTo_congr (pts_congr_read yV.view (c : Thread nD τ) rfl fullShare _ _ (funext fun y =>
    View.read_writes_apply_of_pieces yV.view f (yFull m c) (yPieces m c) (yPieces_at m c) y (yPieces_cover m c y)))

/-- What the first five parts leave: the product, the operands, the barrier behind. -/
def afterFront (c : Dev nD) : sProp 𝕄 :=
  iprop((∃ W, owes (c : Thread nD τ) (owA c) W) ∗ atPos ER (bcell c) (0 + 1) ∅ 0 ∗ barPay c 1 ∗ barPay c 2 ∗ barPay c 3
    ∗ pt c aM (m ((c : Thread nD τ).loc main_arg0)) ∗ pt c wM (m ((c : Thread nD τ).loc main_arg1))
    ∗ (∃ f, pt c (xTop xV) f) ∗ (∃ f, pt c (xBot xV) f) ∗ pt c yV (yFull m c) ∗ (∃ f, pt c waV f) ∗ (∃ f, pt c wbV f)
    ∗ semVal ((c : Thread nD τ), lsem 0) 0 ∗ semVal ((c : Thread nD τ), lsem 1) 0
    ∗ semVal ((c : Thread nD τ), lsem 2) 0 ∗ semVal ((c : Thread nD τ), lsem 3) 0)

set_option maxHeartbeats 1000000 in
/-- The first five parts, from the launch's state, run to the state `afterFront`, with the eight half blocks' maxima passed on to the rest of the body. -/
theorem run_front (c : Dev nD) (W : Waits sig Unit) (Q : PUnit → sProp 𝕄) (R : sProp 𝕄)
    (hk : ∀ v2 : BitVec 32, iprop(afterFront m c ∗ R) ⊢ wpC c (bodyBack (F := F) c v2
      (k0_pay3 (xh m c 0) (wc m c 0)) (k0_pay6 (xh m c 1) (wc m c 0)) (k0_pay9 (xh m c 0) (wc m c 1)) (k0_pay12 (xh m c 1) (wc m c 1))
      (k0_pay15 (xh m c 0) (wc m c 2)) (k0_pay18 (xh m c 1) (wc m c 2)) (k0_pay21 (xh m c 0) (wc m c 3)) (k0_pay24 (xh m c 1) (wc m c 3))) Q) :
    iprop((records m K ∗ levAts L lv ∗ owes (c : Thread nD τ) (owB c) W
        ∗ dutyTok ER (bcell (pl 1 c)) 0 1 ∗ dutyTok ER (bcell (pl 2 c)) 0 2 ∗ dutyTok ER (bcell (pl 3 c)) 0 3
        ∗ ((∃ f, rowPts c (pl 1 c) f) ∗ ∃ f, qrPts c (pl 1 c) f) ∗ ((∃ f, rowPts c (pl 2 c) f) ∗ ∃ f, qrPts c (pl 2 c) f) ∗ ((∃ f, rowPts c (pl 3 c) f) ∗ ∃ f, qrPts c (pl 3 c) f)
        ∗ cred (tallyAt (bcell c) () 3) ∗ atPos ER (bcell c) 0 ∅ 0
        ∗ pt c aM (m ((c : Thread nD τ).loc main_arg0)) ∗ pt c wM (m ((c : Thread nD τ).loc main_arg1))
        ∗ (∃ f, pt c (xTop xV) f) ∗ (∃ f, pt c (xBot xV) f) ∗ (∃ f, pt c yV f) ∗ (∃ f, pt c waV f) ∗ (∃ f, pt c wbV f)
        ∗ semVal ((c : Thread nD τ), lsem 0) 0 ∗ semVal ((c : Thread nD τ), lsem 1) 0
        ∗ semVal ((c : Thread nD τ), lsem 2) 0 ∗ semVal ((c : Thread nD τ), lsem 3) 0) ∗ R)
      ⊢ wpC c (body (F := F)) Q := by
  iintro ⟨⟨#HR, #Hlev, HO, Ht1, Ht2, Ht3, Hg1, Hg2, Hg3, Hc, Hat, Ha, Hw, ⟨%fx, Hx⟩, ⟨%fx1, Hx1⟩, ⟨%fy, Hy⟩, ⟨%fa, Hwa⟩, ⟨%fb, Hwb⟩, Hs0, Hs1, Hs2, Hs3⟩, HRr⟩
  rw [body_eq]
  unfold bodyFront wpC
  sl_exec_parts
  unfold owB
  iapply (step_signal m K c _ 1 (Fin.ext (k0_dev1_eq c)) (by decide) (by decide) _ _) $$ [HO Ht1 Hg1]
  · isplitr; · iexact HR
    isplitl [HO]; · iexact HO
    isplitl [Ht1] <;> iassumption
  iintro HO
  unfold wpC
  sl_exec_parts
  iapply (step_signal m K c _ 2 (Fin.ext (k0_dev2_eq c)) (by decide) (by decide) _ _) $$ [HO Ht2 Hg2]
  · isplitr; · iexact HR
    isplitl [HO]; · iexact HO
    isplitl [Ht2] <;> iassumption
  iintro HO
  unfold wpC
  sl_exec_parts
  iapply (step_signal m K c _ 3 (Fin.ext (k0_dev3_eq c)) (by decide) (by decide) _ _) $$ [HO Ht3 Hg3]
  · isplitr; · iexact HR
    isplitl [HO]; · iexact HO
    isplitl [Ht3] <;> iassumption
  iintro HO
  unfold wpC
  sl_exec_parts
  iapply (step_barWait m K c (by decide) (owA c) (above_owA (by decide) c) _) $$ [HO Hc Hat]
  · isplitr; · iexact HR
    isplitr; · iexact Hlev
    isplitl [Hc]; · iexact Hc
    isplitl [HO] <;> iassumption
  iintro ⟨⟨%W', HO⟩, Hat, Hp1, Hp2, Hp3⟩
  unfold wpC
  have hmw := mayWait_local (F := F) c
  set_option sl_exec.stopBefore "part6" in sl_exec_parts (disch := decide)
  have d0 : run_front.sl.dma0 m c = xh m c 0 := copy_x m c 0 (by decide)
  have d1 : run_front.sl.dma0_2 m c = xh m c 1 := copy_x m c 1 (by decide)
  have d2 : run_front.sl.dma0_1 m c = wc m c 0 := copy_w m c 0 (by decide)
  have d3 : run_front.sl.dma0_3 m c = wc m c 1 := copy_w m c 1 (by decide)
  have d4 : run_front.sl.dma6 m c = wc m c 2 := copy_w m c 2 (by decide)
  have d5 : run_front.sl.dma14 m c = wc m c 3 := copy_w m c 3 (by decide)
  have e38 : run_front.sl.v38 m c = wc m c 0 := by unfold run_front.sl.v38; rw [load_w, d2]
  have e70 : run_front.sl.v70 m c = wc m c 1 := by unfold run_front.sl.v70; rw [load_w, d3]
  have e98 : run_front.sl.v98 m c = wc m c 2 := by unfold run_front.sl.v98; rw [load_w, d4]
  have e123 : run_front.sl.v123 m c = wc m c 3 := by unfold run_front.sl.v123; rw [load_w, d5]
  have r0 : run_front.sl.r m c = k0_pay3 (xh m c 0) (wc m c 0) := by unfold run_front.sl.r; rw [load_top, e38, d0]
  have r1 : run_front.sl.r_1 m c = k0_pay6 (xh m c 1) (wc m c 0) := by unfold run_front.sl.r_1; rw [load_bot, e38, d1]
  have r2 : run_front.sl.r_2 m c = k0_pay9 (xh m c 0) (wc m c 1) := by unfold run_front.sl.r_2; rw [load_top, e70, d0]
  have r3 : run_front.sl.r_3 m c = k0_pay12 (xh m c 1) (wc m c 1) := by unfold run_front.sl.r_3; rw [load_bot, e70, d1]
  have r4 : run_front.sl.r_4 m c = k0_pay15 (xh m c 0) (wc m c 2) := by unfold run_front.sl.r_4; rw [load_top, e98, d0]
  have r5 : run_front.sl.r_5 m c = xh m c 1 := by unfold run_front.sl.r_5; rw [load_bot, d1]
  have r6 : run_front.sl.r_6 m c = k0_pay18 (xh m c 1) (wc m c 2) := by unfold run_front.sl.r_6; rw [r5, e98]
  have r7 : run_front.sl.r_7 m c = k0_pay21 (xh m c 0) (wc m c 3) := by unfold run_front.sl.r_7; rw [load_top, e123, d0]
  have r8 : run_front.sl.r_8 m c = k0_pay24 (xh m c 1) (wc m c 3) := by unfold run_front.sl.r_8; rw [load_bot, e123, d1]
  rw [load_top, load_bot, e123, r0, r1, r2, r3, r4, r5, r6, r7, r8, e98, d0, d1,
    show run_front.sl.Hy_5 m c = (yPieces m c).drop 3 by
      unfold run_front.sl.Hy_5 run_front.sl.Hy_3 run_front.sl.Hy_1
      rw [e38, e70, e98, d0, d1, load_top, load_bot]; rfl]
  rw [yPieces, List.drop_succ_cons, List.drop_succ_cons, List.drop_succ_cons, List.drop_zero, ← yPieces]
  ihave Hy := (Entails.of_eq (y_done m c fy)) $$ Hy
  have hk' := hk (run_front.sl.v2 c)
  unfold bodyBack wpC at hk'
  iapply hk'
  unfold afterFront
  isplitr [HRr]; swap; · iexact HRr
  isplitl [HO]; · iexists _; iexact HO
  isplitl [Hat]; · iexact Hat
  isplitl [Hp1]; · iexact Hp1
  isplitl [Hp2]; · iexact Hp2
  isplitl [Hp3]; · iexact Hp3
  isplitl [Ha]; · iexact Ha
  isplitl [Hw]; · iexact Hw
  isplitl [Hx]; · iexists _; iexact Hx
  isplitl [Hx1]; · iexists _; iexact Hx1
  isplitl [Hy]; · iexact Hy
  isplitl [Hwa]; · iexists _; iexact Hwa
  isplitl [Hwb]; · iexists _; iexact Hwb
  isplitl [Hs0]; · iexact Hs0
  isplitl [Hs1]; · iexact Hs1
  isplitl [Hs2]; · iexact Hs2
  iexact Hs3

end Cert.KernelIdeal.Mesh

end
-- ==== Proof.Cuts.lean ====
/-
# Buffers held in pieces

The transfers between devices and the copies out of the staging buffer touch a buffer one row, slab or row block
at a time. This module cuts each such buffer in its pieces and puts the pieces back together.
-/
module

public import proofs.«01_k».proof.Proof.Front

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A family over the devices, listed from device `c` on. -/
theorem around (c : Dev nD) (f : Fin 4 → sProp 𝕄) :
    bigSep Finset.univ f = iprop(f c ∗ f (pl 1 c) ∗ f (pl 2 c) ∗ f (pl 3 c)) := by
  rw [bigSep_univ_eq_bigSepL [c, pl 1 c, pl 2 c, pl 3 c] (by revert c; decide) (by revert c; decide)]; rfl

section Tiles
variable {sp : Space} {s : Shape} {e : EltTy} {T : Type} [Fintype T] [DecidableEq T]

/-- Rectangles `r t` that sort the indices of a shape by `key`. -/
def Sorts (r : T → Rect s) (key : s.Idx → T) : Prop := ∀ t y, y ∈ (r t).set ↔ key y = t

/-- Two different pieces share no element. -/
theorem Sorts.disjoint {r : T → Rect s} {key : s.Idx → T} (h : Sorts r key) (v : View sig .tc sp s e) {t t' : T} (ht : t ≠ t') :
    Disjoint (v.slice (r t)).set (v.slice (r t')).set := by
  rw [View.set_slice, View.set_slice, Finset.disjoint_map]
  exact Finset.disjoint_left.mpr fun y hy hy' => ht (((h t y).mp hy).symm.trans ((h t' y).mp hy'))

/-- The pieces make up the view. -/
theorem Sorts.cover {r : T → Rect s} {key : s.Idx → T} (h : Sorts r key) (v : View sig .tc sp s e) :
    v.set = Finset.univ.biUnion fun t => (v.slice (r t)).set := by
  ext i
  simp only [View.set_slice, Finset.mem_biUnion, Finset.mem_univ, true_and]
  constructor
  · intro hi
    obtain ⟨y, -, rfl⟩ := Finset.mem_map.mp hi
    exact ⟨key y, Finset.mem_map_of_mem _ ((h (key y) y).mpr rfl)⟩
  · rintro ⟨t, ht⟩
    obtain ⟨y, -, rfl⟩ := Finset.mem_map.mp ht
    exact View.emb_mem_set v y

/-- A view held whole is its pieces held. -/
theorem Sorts.cut {r : T → Rect s} {key : s.Idx → T} (h : Sorts r key) (v : View sig .tc sp s e) (c : Dev nD)
    (f : Buf (Elt F) (v.loc (c : Thread nD τ))) :
    (v.loc (c : Thread nD τ) ↦[v.set]{fullShare} f : sProp 𝕄)
      = bigSep Finset.univ fun t => v.loc (c : Thread nD τ) ↦[(v.slice (r t)).set]{fullShare} f := by
  rw [h.cover v]
  exact pointsTo_biUnion Finset.univ _ fun t _ t' _ ht => h.disjoint v ht

/-- The pieces, each at some contents, are the view held whole at some contents. -/
theorem Sorts.join {r : T → Rect s} {key : s.Idx → T} (h : Sorts r key) (v : View sig .tc sp s e) (c : Dev nD) :
    bigSep Finset.univ (fun t => iprop(∃ f : Buf (Elt F) (v.loc (c : Thread nD τ)), v.loc (c : Thread nD τ) ↦[(v.slice (r t)).set]{fullShare} f))
      ⊢ (iprop(∃ f, v.loc (c : Thread nD τ) ↦[v.set]{fullShare} f) : sProp 𝕄) := by
  refine (bigSep_exists_pi Finset.univ _).trans ?_
  iintro ⟨%fs, H⟩
  have hj := pointsTo_biUnion_join (Val := Elt F) (Ix := Unit) (Name := ℕ) (U := UU) (Lvl := ℕ) (ℓ := v.loc (c : Thread nD τ)) (q := fullShare)
    Finset.univ (fun t => (v.slice (r t)).set) fs v.junk (fun t _ t' _ ht => h.disjoint v ht)
  ihave H := hj $$ H
  icases H with ⟨%g, %_, H⟩
  iexists g
  rw [h.cover v]
  iexact H

end Tiles

/-! ## The cuts -/

/-- Row `o` of the rows of maxima. -/
abbrev rxCut (o : Fin 4) : Rect S4x128 := Rect.unit (s := S4x128) ![o.val, 0] S1x128.size (rxRow_inb o)
/-- Slab `o` of a buffer of four blocks. -/
abbrev slabCut (o : Fin 4) : Rect S4x1024x512 := Rect.unit (s := S4x1024x512) ![o.val, 0, 0] S1x1024x512.size (slab_inb o)
/-- Row block `o` lies within a buffer shaped as the result. -/
theorem rb_inb (o : Fin 4) : ∀ a, (![1024 * o.val, 0] : Fin 2 → ℕ) a + S1024x512.size a ≤ S4096x512.size a := by revert o; decide
/-- Row block `o` of a buffer shaped as the result, as a rectangle. -/
abbrev rbCut (o : Fin 4) : Rect S4096x512 := Rect.unit (s := S4096x512) ![1024 * o.val, 0] S1024x512.size (rb_inb o)
/-- Half `h` of the left operand's rows. -/
abbrev xCut (h : Fin 2) : Rect S1024x4096 := Rect.unit (s := S1024x4096) ![512 * h.val, 0] S512x4096.size (xh_inb h)
/-- Row block `o` of a buffer shaped as the result. -/
abbrev rb {sp : Space} (M : Memref sig .tc sp S4096x512 .f32) (o : Fin 4) : Memref sig .tc sp S1024x512 .f32 := M.slice (rbCut o) (fun _ => rfl)

/-- The rows of maxima are sorted by the first index. -/
theorem rxCut_sorts : Sorts rxCut (fun y => ⟨(y 0).val, (y 0).isLt⟩) := fun o y => by
  have h1 : (y 1).val < 128 := (y 1).isLt
  rw [Rect.mem_set_unit, Fin.forall_fin_two, Fin.ext_iff]
  show (o.val ≤ (y 0).val ∧ (y 0).val < o.val + 1) ∧ (0 ≤ (y 1).val ∧ (y 1).val < 0 + 128) ↔ (y 0).val = o.val
  omega
/-- The slabs are sorted by the first index. -/
theorem slabCut_sorts : Sorts slabCut (fun y => ⟨(y 0).val, (y 0).isLt⟩) := fun o y => by
  have h1 : (y 1).val < 1024 := (y 1).isLt
  have h2 : (y 2).val < 512 := (y 2).isLt
  rw [Rect.mem_set_unit, Fin.forall_fin_succ, Fin.forall_fin_two, Fin.ext_iff]
  show (o.val ≤ (y 0).val ∧ (y 0).val < o.val + 1) ∧ (0 ≤ (y 1).val ∧ (y 1).val < 0 + 1024) ∧ (0 ≤ (y 2).val ∧ (y 2).val < 0 + 512) ↔ (y 0).val = o.val
  omega
/-- The row blocks are sorted by the row over 1024. -/
theorem rbCut_sorts : Sorts rbCut (fun y => ⟨(y 0).val / 1024, Nat.div_lt_of_lt_mul (y 0).isLt⟩) := fun o y => by
  have h0 : (y 0).val < 4096 := (y 0).isLt
  have h1 : (y 1).val < 512 := (y 1).isLt
  rw [Rect.mem_set_unit, Fin.forall_fin_two, Fin.ext_iff]
  show (1024 * o.val ≤ (y 0).val ∧ (y 0).val < 1024 * o.val + 1024) ∧ (0 ≤ (y 1).val ∧ (y 1).val < 0 + 512) ↔ (y 0).val / 1024 = o.val
  omega
/-- The halves are sorted by the row over 512. -/
theorem xCut_sorts : Sorts xCut (fun y => ⟨(y 0).val / 512, Nat.div_lt_of_lt_mul (y 0).isLt⟩) := fun h y => by
  have h0 : (y 0).val < 1024 := (y 0).isLt
  have h1 : (y 1).val < 4096 := (y 1).isLt
  rw [Rect.mem_set_unit, Fin.forall_fin_two, Fin.ext_iff]
  show (512 * h.val ≤ (y 0).val ∧ (y 0).val < 512 * h.val + 512) ∧ (0 ≤ (y 1).val ∧ (y 1).val < 0 + 4096) ↔ (y 0).val / 512 = h.val
  omega

/-- A slab's elements are its rectangle's. -/
theorem slab_set (M : Memref sig .tc .vmem S4x1024x512 .i8) (o : Fin 4) : (slab M o).view.set = (M.view.slice (slabCut o)).set :=
  View.set_reshape _ _

/-- The rows of maxima, cut. -/
theorem rx_cut (c : Dev nD) (f : Vec F S4x128 .f32) : pt c rxV f = (bigSep Finset.univ fun o => rowPts c o f : sProp 𝕄) :=
  rxCut_sorts.cut rxV.view c f
/-- The slabs to send and the arrived slabs, cut. -/
theorem qt_cut (c : Dev nD) (f : Vec F S4x1024x512 .i8) :
    pt c qtV f = (bigSep Finset.univ fun o => (qtRow o).view.loc (c : Thread nD τ) ↦[(qtRow o).view.set]{fullShare} f : sProp 𝕄) := by
  rw [show pt c qtV f = _ from slabCut_sorts.cut qtV.view c f]
  exact bigSep_congr fun o _ => by rw [slab_set]
/-- The arrived slabs' buffer, held whole, is its four slabs. -/
theorem qr_cut (c : Dev nD) (f : Vec F S4x1024x512 .i8) : pt c qrV f = (bigSep Finset.univ fun o => qrPts c o f : sProp 𝕄) := by
  rw [show pt c qrV f = _ from slabCut_sorts.cut qrV.view c f]
  exact bigSep_congr fun o _ => by unfold qrPts; rw [slab_set]
/-- The slabs put back. -/
theorem qt_join (c : Dev nD) : bigSep Finset.univ (fun o => qtPts c o) ⊢ (iprop(∃ f, pt (F := F) c qtV f) : sProp 𝕄) := by
  refine BIBase.Entails.trans (Entails.of_eq (bigSep_congr fun o _ => ?_)) (slabCut_sorts.join qtV.view c)
  unfold qtPts; rw [slab_set]
/-- The four arrived slabs, each at some contents, are the buffer. -/
theorem qr_join (c : Dev nD) : bigSep Finset.univ (fun o => iprop(∃ f, qrPts c o f)) ⊢ (iprop(∃ f, pt (F := F) c qrV f) : sProp 𝕄) := by
  refine BIBase.Entails.trans (Entails.of_eq (bigSep_congr fun o _ => ?_)) (slabCut_sorts.join qrV.view c)
  unfold qrPts; rw [slab_set]; rfl
/-- A buffer shaped as the result, cut in row blocks, and put back. -/
theorem rb_cut {sp : Space} (M : Memref sig .tc sp S4096x512 .f32) (c : Dev nD) (f : Buf (Elt F) (M.view.loc (c : Thread nD τ))) :
    pt c M f = (bigSep Finset.univ fun o => pt c (rb M o) f : sProp 𝕄) :=
  rbCut_sorts.cut M.view c f
/-- The four row blocks, each at some contents, are the buffer. -/
theorem rb_join {sp : Space} (M : Memref sig .tc sp S4096x512 .f32) (c : Dev nD) :
    bigSep Finset.univ (fun o => iprop(∃ f, pt c (rb M o) f)) ⊢ (iprop(∃ f, pt (F := F) c M f) : sProp 𝕄) :=
  rbCut_sorts.join M.view c
/-- The two halves of the left operand's buffer, cut and put back. -/
theorem x_cut (c : Dev nD) (f : Vec F S1024x4096 .f32) : pt c xV f = (iprop(pt c (xTop xV) f ∗ pt c (xBot xV) f) : sProp 𝕄) := by
  rw [show pt c xV f = _ from xCut_sorts.cut xV.view c f, bigSep_univ_eq_bigSepL [0, 1] (by decide) (by decide)]; rfl
/-- The two halves, each at some contents, are the buffer. -/
theorem x_join (c : Dev nD) : iprop((∃ f, pt c (xTop xV) f) ∗ ∃ f, pt c (xBot xV) f) ⊢ (iprop(∃ f, pt (F := F) c xV f) : sProp 𝕄) := by
  refine BIBase.Entails.trans (Entails.of_eq ?_) (xCut_sorts.join xV.view c)
  rw [bigSep_univ_eq_bigSepL [0, 1] (by decide) (by decide)]; rfl

end Cert.KernelIdeal.Mesh

end
-- ==== Proof.Maxima.lean ====
/-
# The exchange of the maxima

The sixth and seventh parts: a device stores its row of maxima, in the buffer it sends and at its own row, sends
it to the three other devices, waits for theirs and loads the four rows.
-/
module

public import proofs.«01_k».proof.Proof.Cuts

@[expose] public section

noncomputable section

namespace Cert.KernelIdeal.Mesh

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-! ## The semaphores by their offsets -/

/-- Entry `o` of an array of four consecutive semaphores. -/
theorem sem_at (base : ℕ) (h : base + S4.numel ≤ 24) (o : Fin 4) {off : Fin 1 → ℕ} (ho : off = ![o.val]) (inb : ∀ a, off a + S1.size a ≤ S4.size a) :
    ((((SemArray.consecutive (n := 24) base S4 h).slice (Rect.unit (s := S4) off S1.size inb)).squeeze S_ squeezes_S1_S_).sem).val = base + o.val := by
  subst ho
  show base + (S4.rowMajor ((Rect.unit (s := S4) ![o.val] S1.size inb).emb (Shape.reshapeEquiv squeezes_S1_S_.numel_eq _))).val = base + o.val
  rw [Shape.rowMajor_val_one]
  generalize Shape.reshapeEquiv squeezes_S1_S_.numel_eq _ = j
  have hj : (j 0).val < 1 := (j 0).isLt
  show base + (o.val + 1 * (j 0).val) = base + o.val
  omega
/-- The first family's semaphore at `i` is the send semaphore of the maxima, `i`. -/
theorem sem_aS (i : Fin 4) {off : Fin 1 → ℕ} (h : off = ![i.val]) (inb : ∀ a, off a + S1.size a ≤ S4.size a) :
    ((cc0_scratch12.slice (Rect.unit (s := S4) off S1.size inb)).squeeze S_ squeezes_S1_S_).sem = dq 0 i :=
  Fin.ext (sem_at 8 _ i h inb)
/-- The second family's semaphore at `o` is the receive semaphore of the maxima, `o`. -/
theorem sem_aR (o : Fin 4) {off : Fin 1 → ℕ} (h : off = ![o.val]) (inb : ∀ a, off a + S1.size a ≤ S4.size a) :
    ((cc0_scratch13.slice (Rect.unit (s := S4) off S1.size inb)).squeeze S_ squeezes_S1_S_).sem = dq 1 o :=
  Fin.ext (sem_at 12 _ o h inb)
/-- The third family's semaphore at `i` is the send semaphore of the blocks, `i`. -/
theorem sem_dS (i : Fin 4) {off : Fin 1 → ℕ} (h : off = ![i.val]) (inb : ∀ a, off a + S1.size a ≤ S4.size a) :
    ((cc0_scratch14.slice (Rect.unit (s := S4) off S1.size inb)).squeeze S_ squeezes_S1_S_).sem = dq 2 i :=
  Fin.ext (sem_at 16 _ i h inb)
/-- The fourth family's semaphore at `o` is the receive semaphore of the blocks, `o`. -/
theorem sem_dR (o : Fin 4) {off : Fin 1 → ℕ} (h : off = ![o.val]) (inb : ∀ a, off a + S1.size a ≤ S4.size a) :
    ((cc0_scratch15.slice (Rect.unit (s := S4) off S1.size inb)).squeeze S_ squeezes_S1_S_).sem = dq 3 o :=
  Fin.ext (sem_at 20 _ o h inb)

/-- The offset of the semaphore that a wait for the maxima takes is the number of the device `r + 1` places on. -/
theorem off4 (c : Dev nD) (r : Fin 3) : k0_off4 c (BitVec.ofNat 32 (1 + r.val)) = ![(pl r.succ c).val] := k0_off4_eq c r

/-- A row of maxima at any offset has the one credit. -/
theorem rx_credit (off : Fin 2 → ℕ) (inb : ∀ a, off a + S1x128.size a ≤ S4x128.size a) :
    (rxV.slice (Rect.unit (s := S4x128) off S1x128.size inb) (fun _ => rfl) : Memref sig .tc .vmem S1x128 .f32).view.dmaCredit = NA := rfl

/-- What each kind of wait hands over. -/
theorem pay_aS (c : Dev nD) (i : Fin 4) : payOf m c 0 (some (0, i)) = txPts m c i.val := rfl
/-- The arrival of a row of maxima hands over that row. -/
theorem pay_aR (c : Dev nD) (o : Fin 4) : payOf m c 0 (some (1, o)) = rowPts c o (amaxAll m) := rfl
/-- The end of a block's send hands the slab back. -/
theorem pay_dS (c : Dev nD) (i : Fin 4) : payOf m c 0 (some (2, i)) = qtPts c i := rfl
/-- The arrival of a block hands over its slab. -/
theorem pay_dR (c : Dev nD) (o : Fin 4) : payOf m c 0 (some (3, o)) = qrPts c o (qAll m c) := rfl

/-! ## What the stores leave and the load reads -/

/-- The published row, stored, is the device's row of maxima. -/
theorem tx_done (c : Dev nD) (f : Vec F S1x128 .f32) :
    pt c txV (txV.view.writes (Elt F) f [⟨Rect.unit (s := S1x128) ![0, 0] S1x128.size inb_S1x128_S1x128_0_0, amaxRow m c⟩]) = pt (F := F) c txV (amaxRow m c) :=
  pointsTo_congr (pts_congr_read txV.view (c : Thread nD τ) rfl fullShare _ _ (View.read_writes_full _ _ _ _ _))

/-- The published row as its rest and the tokens the three sends take. -/
theorem tx_split (c : Dev nD) : pt c txV (amaxRow m c)
    ⊢ (iprop((txV.view.loc (c : Thread nD τ) ↦[txV.view.set]{Transfers.shareDrop fullShare 4} amaxRow m c) ∗ txPts m c 0 ∗ txPts m c 1 ∗ txPts m c 2 ∗ txPts m c 3) : sProp 𝕄) := by
  refine (Transfers.pointsTo_toks_split fullShare 4).trans ?_
  rw [bigSep_univ_eq_bigSepL [0, 1, 2, 3] (by decide) (by decide)]
  exact BIBase.Entails.rfl
/-- The rest and the tokens of the published row are the row held whole. -/
theorem tx_join (c : Dev nD) : (iprop((txV.view.loc (c : Thread nD τ) ↦[txV.view.set]{Transfers.shareDrop fullShare 4} amaxRow m c) ∗ txPts m c 0 ∗ txPts m c 1 ∗ txPts m c 2 ∗ txPts m c 3) : sProp 𝕄)
    ⊢ pt c txV (amaxRow m c) := by
  refine BIBase.Entails.trans ?_ (Transfers.pointsTo_toks_join fullShare 4)
  rw [bigSep_univ_eq_bigSepL [0, 1, 2, 3] (by decide) (by decide)]
  exact BIBase.Entails.rfl

/-- A row of maxima under another name of its offsets. -/
theorem row_off (c : Dev nD) (o : Fin 4) {off : Fin 2 → ℕ} (h : off = ![o.val, 0]) (inb : ∀ a, off a + S1x128.size a ≤ S4x128.size a) (f : Vec F S4x128 .f32) :
    rowPts c o f = pt (F := F) c (rxV.slice (Rect.unit (s := S4x128) off S1x128.size inb) (fun _ => rfl)) f := by
  subst h; rfl

/-- A device's own row, stored. -/
theorem row_done (c : Dev nD) {off : Fin 2 → ℕ} (h : off = ![c.val, 0]) (inb : ∀ a, off a + S1x128.size a ≤ S4x128.size a) (f : Vec F S4x128 .f32) :
    pt c (rxV.slice (Rect.unit (s := S4x128) off S1x128.size inb) (fun _ => rfl))
        (View.write (Elt F) (rxV.access (Rect.unit (s := S4x128) off S1x128.size inb)) f (amaxRow m c) Finset.univ)
      = rowPts (F := F) c c (amaxAll m) := by
  subst h
  exact pointsTo_congr (pts_congr_read (rxRow c).view (c : Thread nD τ) rfl fullShare _ _ (by
    rw [read_rxRow]; exact View.read_write_univ (v := (rxRow c).view) f (amaxRow m c)))
/-- The four rows. -/
theorem rx_all (c : Dev nD) : (iprop(rowPts c c (amaxAll m) ∗ rowPts c (pl 1 c) (amaxAll m) ∗ rowPts c (pl 2 c) (amaxAll m) ∗ rowPts c (pl 3 c) (amaxAll m)) : sProp 𝕄)
    ⊢ pt c rxV (amaxAll m) := by
  rw [rx_cut, around c]

/-- What the sixth and seventh parts leave. -/
def afterMaxima (c : Dev nD) : sProp 𝕄 :=
  iprop((∃ W, owes (c : Thread nD τ) (owD c) W)
    ∗ cred (tallyAt (dcell c 0 1) () NA) ∗ cred (tallyAt (dcell c 0 2) () NA) ∗ cred (tallyAt (dcell c 0 3) () NA)
    ∗ atPos ER (dcell c 1 (pl 1 c)) (0 + 1) ∅ 0 ∗ atPos ER (dcell c 1 (pl 2 c)) (0 + 1) ∅ 0 ∗ atPos ER (dcell c 1 (pl 3 c)) (0 + 1) ∅ 0
    ∗ pt c rxV (amaxAll m) ∗ (txV.view.loc (c : Thread nD τ) ↦[txV.view.set]{Transfers.shareDrop fullShare 4} amaxRow m c) ∗ txPts m c 0)

set_option maxHeartbeats 1000000 in
/-- Parts six and seven send the device's row of maxima, receive the other three, and run to the state `afterMaxima` with all four rows read. -/
theorem run_maxima (c : Dev nD) (v2 : BitVec 32) (Q : PUnit → sProp 𝕄) (R : sProp 𝕄)
    (hk : iprop(afterMaxima m c ∗ R) ⊢ wpC c (bodySend (F := F) c v2 (amaxVec m)) Q) :
    iprop((records m K ∗ levAts L lv ∗ (∃ W, owes (c : Thread nD τ) (owA c) W)
        ∗ (dutyTok ER (dcell c 0 1) 0 0 ∗ dutyTok ER (dcell (pl 1 c) 1 c) 0 0 ∗ (∃ f, rowPts (pl 1 c) c f))
        ∗ (dutyTok ER (dcell c 0 2) 0 0 ∗ dutyTok ER (dcell (pl 2 c) 1 c) 0 0 ∗ (∃ f, rowPts (pl 2 c) c f))
        ∗ (dutyTok ER (dcell c 0 3) 0 0 ∗ dutyTok ER (dcell (pl 3 c) 1 c) 0 0 ∗ (∃ f, rowPts (pl 3 c) c f))
        ∗ (cred (tallyAt (dcell c 1 (pl 1 c)) () NA) ∗ atPos ER (dcell c 1 (pl 1 c)) 0 ∅ 0)
        ∗ (cred (tallyAt (dcell c 1 (pl 2 c)) () NA) ∗ atPos ER (dcell c 1 (pl 2 c)) 0 ∅ 0)
        ∗ (cred (tallyAt (dcell c 1 (pl 3 c)) () NA) ∗ atPos ER (dcell c 1 (pl 3 c)) 0 ∅ 0)
        ∗ (∃ f, pt c txV f) ∗ (∃ f, rowPts c c f)) ∗ R)
      ⊢ wpC c (bodyBack (F := F) c v2
      (k0_pay3 (xh m c 0) (wc m c 0)) (k0_pay6 (xh m c 1) (wc m c 0)) (k0_pay9 (xh m c 0) (wc m c 1)) (k0_pay12 (xh m c 1) (wc m c 1))
      (k0_pay15 (xh m c 0) (wc m c 2)) (k0_pay18 (xh m c 1) (wc m c 2)) (k0_pay21 (xh m c 0) (wc m c 3)) (k0_pay24 (xh m c 1) (wc m c 3))) Q := by
  iintro ⟨⟨#HR, #Hlev, ⟨%W, HO⟩, ⟨Hs1, Hr1, Hd1⟩, ⟨Hs2, Hr2, Hd2⟩, ⟨Hs3, Hr3, Hd3⟩, ⟨Hc1, Ha1⟩, ⟨Hc2, Ha2⟩, ⟨Hc3, Ha3⟩, ⟨%ft, Htx⟩, ⟨%fr, Hrow⟩⟩, HRr⟩
  ihave Hrow := (Entails.of_eq (row_off (F := F) c c (k0_off1_eq c) (k0_off1_inb c) fr)) $$ Hrow
  unfold bodyBack wpC
  sl_exec_parts
  rw [← amaxRow]
  ihave Htx := (Entails.of_eq (tx_done m c ft)) $$ Htx
  ihave Htx := (tx_split m c) $$ Htx
  icases Htx with ⟨Hx, Hx0, Hx1, Hx2, Hx3⟩
  unfold owA
  iapply (step_sendA m K c _ 1 (Fin.ext (k0_dev4_eq c)) (by decide) (sem_aS 1 rfl _) (sem_aR c (k0_off2_eq c) _) (rxRow_eq c (k0_off3_eq c) _) _ _) $$ [HO Hs1 Hr1 Hx1 Hd1]
  · isplitr; · iexact HR
    isplitl [HO]; · iexact HO
    isplitl [Hs1]; · iexact Hs1
    isplitl [Hr1]; · iexact Hr1
    isplitl [Hx1]; · iexact Hx1
    iexact Hd1
  iintro ⟨Hs1, HO⟩
  unfold wpC
  sl_exec_parts
  iapply (step_sendA m K c _ 2 (Fin.ext (k0_dev5_eq c)) (by decide) (sem_aS 2 rfl _) (sem_aR c (k0_off2_eq c) _) (rxRow_eq c (k0_off3_eq c) _) _ _) $$ [HO Hs2 Hr2 Hx2 Hd2]
  · isplitr; · iexact HR
    isplitl [HO]; · iexact HO
    isplitl [Hs2]; · iexact Hs2
    isplitl [Hr2]; · iexact Hr2
    isplitl [Hx2]; · iexact Hx2
    iexact Hd2
  iintro ⟨Hs2, HO⟩
  unfold wpC
  sl_exec_parts
  iapply (step_sendA m K c _ 3 (Fin.ext (k0_dev6_eq c)) (by decide) (sem_aS 3 rfl _) (sem_aR c (k0_off2_eq c) _) (rxRow_eq c (k0_off3_eq c) _) _ _) $$ [HO Hs3 Hr3 Hx3 Hd3]
  · isplitr; · iexact HR
    isplitl [HO]; · iexact HO
    isplitl [Hs3]; · iexact Hs3
    isplitl [Hr3]; · iexact Hr3
    isplitl [Hx3]; · iexact Hx3
    iexact Hd3
  iintro ⟨Hs3, HO⟩
  unfold wpC
  sl_exec_parts
  iapply (step_wait m K c 1 (pl 1 c) (if_neg (pl_ne 1 (by decide) c)) (sem_aR (pl 1 c) (off4 c 0) _) (rx_credit _ _) rfl (owD c) (above_owD (show 2 < 3 by decide) c) _) $$ [Hc1 HO Ha1]
  · isplitr; · iexact HR
    isplitr; · iexact Hlev
    isplitl [Hc1]; · iexact Hc1
    isplitl [HO] <;> iassumption
  iintro ⟨⟨%W1, HO⟩, Ha1, Hp1⟩
  unfold wpC
  sl_exec_parts
  iapply (step_wait m K c 1 (pl 2 c) (if_neg (pl_ne 2 (by decide) c)) (sem_aR (pl 2 c) (off4 c 1) _) (rx_credit _ _) rfl (owD c) (above_owD (show 2 < 3 by decide) c) _) $$ [Hc2 HO Ha2]
  · isplitr; · iexact HR
    isplitr; · iexact Hlev
    isplitl [Hc2]; · iexact Hc2
    isplitl [HO] <;> iassumption
  iintro ⟨⟨%W2, HO⟩, Ha2, Hp2⟩
  unfold wpC
  sl_exec_parts
  iapply (step_wait m K c 1 (pl 3 c) (if_neg (pl_ne 3 (by decide) c)) (sem_aR (pl 3 c) (off4 c 2) _) (rx_credit _ _) rfl (owD c) (above_owD (show 2 < 3 by decide) c) _) $$ [Hc3 HO Ha3]
  · isplitr; · iexact HR
    isplitr; · iexact Hlev
    isplitl [Hc3]; · iexact Hc3
    isplitl [HO] <;> iassumption
  iintro ⟨⟨%W3, HO⟩, Ha3, Hp3⟩
  unfold wpC
  unfold run_maxima.sl.Hrow_w1
  rw [show (k0_pay27 _ _ _ _ _ _ _ _ : Vec F S1x128 .f32) = amaxRow m c from rfl]
  ihave Hrow := (Entails.of_eq (row_done m c (k0_off1_eq c) (k0_off1_inb c) fr)) $$ Hrow
  ihave Hrx := (rx_all m c) $$ [Hrow Hp1 Hp2 Hp3]
  · isplitl [Hrow]; · iexact Hrow
    isplitl [Hp1]; · iapply (Entails.of_eq (pay_aR m c (pl 1 c))); iexact Hp1
    isplitl [Hp2]; · iapply (Entails.of_eq (pay_aR m c (pl 2 c))); iexact Hp2
    iapply (Entails.of_eq (pay_aR m c (pl 3 c))); iexact Hp3
  set_option sl_exec.stopBefore "part8" in sl_exec_parts
  rw [show (run_maxima.sl.r m : FVec F S1x4x128 .f32) = amaxVec m by
    unfold run_maxima.sl.r amaxVec; rw [View.readAt_full]; rfl]
  unfold bodySend wpC at hk
  iapply hk
  unfold afterMaxima
  isplitr [HRr]; swap; · iexact HRr
  isplitl [HO]; · iexists _; iexact HO
  isplitl [Hs1]; · iexact Hs1
  isplitl [Hs2]; · iexact Hs2
  isplitl [Hs3]; · iexact Hs3
  isplitl [Ha1]; · iexact Ha1
  isplitl [Ha2]; · iexact Ha2
  isplitl [Ha3]; · iexact Ha3
  isplitl [Hrx]; · iexact Hrx
  isplitl [Hx] <;> iassumption

end Cert.KernelIdeal.Mesh

end
-- ==== Proof.Send.lean ====
/-
# The quantised blocks, sent

The eighth and ninth parts, and the tenth as far as its send: a device quantises its blocks for the three other
devices and sends each.
-/
module

public import proofs.«01_k».proof.Proof.Maxima

@[expose] public section

noncomputable section

namespace Cert.KernelIdeal.Mesh

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-! ## The slabs under other names of their offsets -/

/-- The offset of the block that a device quantises for the one `r + 1` places on is that device's number. -/
theorem off6 (c : Dev nD) (r : Fin 3) : k0_off6 c (BitVec.ofNat 32 (1 + r.val)) = ![(pl r.succ c).val, 0, 0] := k0_off6_eq c r

/-- A loaded block of the product. -/
theorem load_y (c : Dev nD) (j : Fin 4) {off : Fin 3 → ℕ} (h : off = ![j.val, 0, 0]) (inb : ∀ a, off a + S1x1024x512.size a ≤ S4x1024x512.size a) :
    View.readAt (Elt F) yV.view (Rect.unit (s := S4x1024x512) off S1x1024x512.size inb).toLoadRect (yFull m c) = ySlab m c j := by
  subst h
  rw [View.readAt_rect]
  funext x
  have h0 : (x 0).val < 1 := (x 0).isLt
  show yFull m c ((Rect.unit (s := S4x1024x512) ![j.val, 0, 0] S1x1024x512.size inb).emb x) = yFull m c _
  congr 1
  funext a
  match a with
  | ⟨0, _⟩ => exact Fin.ext (by show j.val + 1 * (x 0).val = j.val; omega)
  | ⟨1, _⟩ => exact Fin.ext (by show 0 + 1 * (x 1).val = (x 1).val; omega)
  | ⟨2, _⟩ => exact Fin.ext (by show 0 + 1 * (x 2).val = (x 2).val; omega)

/-- A slab to send, as the store writes it and as the send reads it. -/
theorem qt_off (c : Dev nD) (i : Fin 4) {off : Fin 3 → ℕ} (h : off = ![i.val, 0, 0]) (inb : ∀ a, off a + S1x1024x512.size a ≤ S4x1024x512.size a)
    (f : Vec F S4x1024x512 .i8) :
    ((qtRow i).view.loc (c : Thread nD τ) ↦[(qtRow i).view.set]{fullShare} f : sProp 𝕄)
      = pt c (qtV.slice (Rect.unit (s := S4x1024x512) off S1x1024x512.size inb) (fun _ => rfl)) f := by
  subst h; rw [slab_set]
/-- What was stored, read without the unit axis. -/
theorem qt_read (i : Fin 4) {off : Fin 3 → ℕ} (h : off = ![i.val, 0, 0]) (inb : ∀ a, off a + S1x1024x512.size a ≤ S4x1024x512.size a)
    (f : Vec F S4x1024x512 .i8) (c j : Dev nD)
    {w : Vec F S1x1024x512 .i8} (hw : w = qSlab m c j) :
    (qtRow i).view.read (Elt F) (View.write (Elt F) (qtV.access (Rect.unit (s := S4x1024x512) off S1x1024x512.size inb)) f w Finset.univ) = qBlk m c j := by
  subst h hw
  funext x
  have e := congrFun (View.read_write_univ (Val := Elt F) (v := qtV.access (slabCut i)) f (qSlab m c j))
    (Shape.reshapeEquiv (squeezes_S1x1024x512_S1024x512).numel_eq x)
  have h : Shape.reshapeEquiv (squeezes_S1x1024x512_S1024x512).numel_eq x = ix3 (⟨0, Nat.one_pos⟩ : Fin 1) (x 0) (x 1) :=
    (congrArg _ (eq_ix2 x)).trans (reshapeEquiv_ix2_1ab _ (x 0) (x 1))
  exact e.trans (congrArg (qSlab m c j) h)

/-- What the eighth and ninth parts leave. -/
def afterSend (c : Dev nD) : sProp 𝕄 :=
  iprop((∃ W, owes (c : Thread nD τ) (0 + tallyAt (dcell (pl 3 c) 3 c) () NQ) W)
    ∗ cred (tallyAt (dcell c 2 1) () NQ) ∗ cred (tallyAt (dcell c 2 2) () NQ)
    ∗ pt c yV (yFull m c) ∗ ∃ f, pt c (qtV.slice (Rect.unit (s := S4x1024x512) ![3, 0, 0] S1x1024x512.size inb_S4x1024x512_S1x1024x512_3_0_0) (fun _ => rfl)) f)

set_option maxHeartbeats 1000000 in
/-- Parts eight and nine quantise and send the first two blocks, quantise the third, and run to the state `afterSend`. -/
theorem run_send (c : Dev nD) (v2 : BitVec 32) (Q : PUnit → sProp 𝕄) (R : sProp 𝕄)
    (hk : ∀ (v268 : BitVec 32) (v280 : Vec F S1x1024x512 .i8),
      iprop(afterSend m c ∗ R) ⊢ wpC c (bodyOut (F := F) c v2 (scl m) (inv m) v268 (k0_pay34 (inv m) (ySlab m c (pl 3 c))) v280) Q) :
    iprop((records m K ∗ (∃ W, owes (c : Thread nD τ) (owD c) W)
        ∗ (dutyTok ER (dcell c 2 1) 0 0 ∗ dutyTok ER (dcell (pl 1 c) 3 c) 0 0 ∗ (∃ f, qrPts (pl 1 c) c f))
        ∗ (dutyTok ER (dcell c 2 2) 0 0 ∗ dutyTok ER (dcell (pl 2 c) 3 c) 0 0 ∗ (∃ f, qrPts (pl 2 c) c f))
        ∗ pt c yV (yFull m c)
        ∗ (∃ f, pt c (qtV.slice (Rect.unit (s := S4x1024x512) ![1, 0, 0] S1x1024x512.size inb_S4x1024x512_S1x1024x512_1_0_0) (fun _ => rfl)) f)
        ∗ (∃ f, pt c (qtV.slice (Rect.unit (s := S4x1024x512) ![2, 0, 0] S1x1024x512.size inb_S4x1024x512_S1x1024x512_2_0_0) (fun _ => rfl)) f)
        ∗ (∃ f, pt c (qtV.slice (Rect.unit (s := S4x1024x512) ![3, 0, 0] S1x1024x512.size inb_S4x1024x512_S1x1024x512_3_0_0) (fun _ => rfl)) f)) ∗ R)
      ⊢ wpC c (bodySend (F := F) c v2 (amaxVec m)) Q := by
  iintro ⟨⟨#HR, ⟨%W, HO⟩, ⟨Hs1, Hr1, Hd1⟩, ⟨Hs2, Hr2, Hd2⟩, Hy, ⟨%f1, Hq1⟩, ⟨%f2, Hq2⟩, ⟨%f3, Hq3⟩⟩, HRr⟩
  unfold bodySend wpC
  sl_exec_parts
  unfold owD
  unfold run_send.sl.Hq2_w1
  ihave Hq2 := (Entails.of_eq (qt_off (F := F) c 2 (off := ![2, 0, 0]) rfl inb_S4x1024x512_S1x1024x512_2_0_0 _).symm) $$ Hq2
  iapply (step_sendQ m K c _ 2 (Fin.ext (k0_dev7_eq c)) (by decide) (sem_dS 2 rfl _) (sem_dR c (k0_off2_eq c) _) (slab_eq qrV c (k0_off7_eq c) _) _ _ _
    (qt_read m 2 rfl _ f2 c (pl 2 c) (congrArg (k0_pay32 (amaxVec m)) (load_y m c (pl 2 c) (off6 c 1) _)))) $$ [HO Hs2 Hr2 Hq2 Hd2]
  · isplitr; · iexact HR
    isplitl [HO]; · iexact HO
    isplitl [Hs2]; · iexact Hs2
    isplitl [Hr2]; · iexact Hr2
    isplitl [Hq2]; · iexact Hq2
    iexact Hd2
  iintro ⟨Hs2, HO⟩
  unfold wpC
  sl_exec_parts
  unfold run_send.sl.Hq1_w1
  ihave Hq1 := (Entails.of_eq (qt_off (F := F) c 1 (off := ![1, 0, 0]) rfl inb_S4x1024x512_S1x1024x512_1_0_0 _).symm) $$ Hq1
  iapply (step_sendQ m K c _ 1 (Fin.ext (k0_dev8_eq c)) (by decide) (sem_dS 1 rfl _) (sem_dR c (k0_off2_eq c) _) (slab_eq qrV c (k0_off7_eq c) _) _ _ _
    (qt_read m 1 rfl _ f1 c (pl 1 c) (congrArg (k0_pay33 (inv m)) (load_y m c (pl 1 c) (off6 c 0) _)))) $$ [HO Hs1 Hr1 Hq1 Hd1]
  · isplitr; · iexact HR
    isplitl [HO]; · iexact HO
    isplitl [Hs1]; · iexact Hs1
    isplitl [Hr1]; · iexact Hr1
    isplitl [Hq1]; · iexact Hq1
    iexact Hd1
  iintro ⟨Hs1, HO⟩
  unfold wpC
  set_option sl_exec.stopBefore "part10" in sl_exec_parts
  have e3 : run_send.sl.r_3 m c = k0_pay34 (inv m) (ySlab m c (pl 3 c)) := by
    unfold run_send.sl.r_3
    exact congrArg (k0_pay34 (inv m)) (load_y m c (pl 3 c) (off6 c 2) _)
  have hk' := hk (run_send.sl.v268 v2) (run_send.sl.r_4 c f3)
  rw [← e3] at hk'
  unfold bodyOut wpC at hk'
  iapply hk'
  unfold afterSend
  isplitr [HRr]; swap; · iexact HRr
  isplitl [HO]; · iexists _; iexact HO
  isplitl [Hs1]; · iexact Hs1
  isplitl [Hs2]; · iexact Hs2
  isplitl [Hy]; · iexact Hy
  iexists f3; iexact Hq3

end Cert.KernelIdeal.Mesh

end
-- ==== Proof.Out.lean ====
/-
# The result, written

The tenth to the thirteenth part: the last send, a device's own rows, and the rows of each other device once its
quantised block has arrived.
-/
module

public import proofs.«01_k».proof.Proof.Send

@[expose] public section

noncomputable section

namespace Cert.KernelIdeal.Mesh

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-! ## The row blocks and slabs under other names of their offsets -/

/-- A row block under another name of its offset. -/
theorem rb_off {sp : Space} (M : Memref sig .tc sp S4096x512 .f32) (c : Dev nD) (o : Fin 4) {off : Fin 2 → ℕ} (h : off = ![1024 * o.val, 0])
    (inb : ∀ a, off a + S1024x512.size a ≤ S4096x512.size a) (f : Buf (Elt F) (M.view.loc (c : Thread nD τ))) :
    pt c (rb M o) f = pt (F := F) c (M.slice (Rect.unit (s := S4096x512) off S1024x512.size inb) (fun _ => rfl)) f := by
  subst h; rfl
/-- The row offset of the block from the device `r + 1` places on is 1024 times that device's number. -/
theorem off11 (c : Dev nD) (r : Fin 3) : k0_off11 c (BitVec.ofNat 32 (1 + r.val)) = ![1024 * (pl r.succ c).val, 0] := k0_off11_eq c r
/-- The offset of the slab from the device `r + 1` places on is that device's number. -/
theorem off10 (c : Dev nD) (r : Fin 3) : k0_off10 c (BitVec.ofNat 32 (1 + r.val)) = ![(pl r.succ c).val, 0, 0] := k0_off10_eq c r

/-- An arrived slab, as the wait hands it over and as the load reads it. -/
theorem qr_off (c : Dev nD) (o : Fin 4) {off : Fin 3 → ℕ} (h : off = ![o.val, 0, 0]) (inb : ∀ a, off a + S1x1024x512.size a ≤ S4x1024x512.size a)
    (f : Vec F S4x1024x512 .i8) :
    qrPts c o f = pt (F := F) c (qrV.slice (Rect.unit (s := S4x1024x512) off S1x1024x512.size inb) (fun _ => rfl)) f := by
  subst h; unfold qrPts; rw [slab_set]
/-- A slab at any offset has the one credit. -/
theorem q_credit (M : Memref sig .tc .vmem S4x1024x512 .i8) (off : Fin 3 → ℕ) (inb : ∀ a, off a + S1x1024x512.size a ≤ S4x1024x512.size a) :
    ((M.slice (Rect.unit (s := S4x1024x512) off S1x1024x512.size inb) (fun _ => rfl)).squeeze S1024x512 squeezes_S1x1024x512_S1024x512).view.dmaCredit = NQ := rfl
/-- A loaded slab is the origin's quantised block. -/
theorem load_q (c o : Dev nD) {off : Fin 3 → ℕ} (h : off = ![o.val, 0, 0]) (inb : ∀ a, off a + S1x1024x512.size a ≤ S4x1024x512.size a) :
    View.readAt (Elt F) qrV.view (Rect.unit (s := S4x1024x512) off S1x1024x512.size inb).toLoadRect (qAll m c) = qSlab m o c := by
  subst h
  rw [View.readAt_rect]
  funext x
  have h0 : (x 0).val < 1 := (x 0).isLt
  have e0 : ((Rect.unit (s := S4x1024x512) ![o.val, 0, 0] S1x1024x512.size inb).emb x) 0 = o := Fin.ext (by
    show o.val + 1 * (x 0).val = o.val; omega)
  show qSlab m (((Rect.unit (s := S4x1024x512) ![o.val, 0, 0] S1x1024x512.size inb).emb x) 0) c _ = _
  rw [e0]
  congr 1
  funext a
  match a with
  | ⟨0, _⟩ => exact Fin.ext (by show 0 = (x 0).val; omega)
  | ⟨1, _⟩ => exact Fin.ext (by show 0 + 1 * (x 1).val = (x 1).val; omega)
  | ⟨2, _⟩ => exact Fin.ext (by show 0 + 1 * (x 2).val = (x 2).val; omega)

/-! ## The row blocks of the result -/

/-- The row block of a device's own rows comes from its own product. -/
theorem outBlk_own (c : Dev nD) : outBlk m c c = k0_pay36 (scl m) (inv m) (ySlab m c c) := if_pos rfl
/-- The row block of another device's rows comes from the block that device sent. -/
theorem outBlk_other (c : Dev nD) (i : Fin 4) (hi : i ≠ 0) : outBlk m c (pl i c) = k0_pay37 (scl m) (qSlab m (pl i c) c) := if_neg (pl_ne i hi c)

/-- Row block `o` of the result. -/
theorem read_out (c : Dev nD) (o : Fin 4) : (rb oM o).view.read (Elt F) (outFull m c) = outBlk m c o := by
  funext x
  have h0 : (x 0).val < 1024 := (x 0).isLt
  have ho := o.isLt
  have v0 : (((rbCut o).emb x) 0).val = 1024 * o.val + (x 0).val := by show 1024 * o.val + 1 * (x 0).val = _; omega
  have e0 : (⟨(((rbCut o).emb x) 0).val / 1024, Nat.div_lt_of_lt_mul (((rbCut o).emb x) 0).isLt⟩ : Fin 4) = o := Fin.ext (by
    show (((rbCut o).emb x) 0).val / 1024 = o.val; rw [v0]; omega)
  show outBlk m c ⟨(((rbCut o).emb x) 0).val / 1024, Nat.div_lt_of_lt_mul (((rbCut o).emb x) 0).isLt⟩ _ = _
  rw [e0]
  congr 1
  funext a
  match a with
  | ⟨0, _⟩ => exact Fin.ext (by show (((rbCut o).emb x) 0).val % 1024 = (x 0).val; rw [v0]; omega)
  | ⟨1, _⟩ => exact Fin.ext (by show 0 + 1 * (x 1).val = (x 1).val; omega)

/-- What the stage holds after a store is what the copy reads. -/
theorem stage_read (off : Fin 2 → ℕ) (inb : ∀ a, off a + S1024x512.size a ≤ S4096x512.size a) (f : Vec F S4096x512 .f32) (w : Vec F S1024x512 .f32) :
    (ReadAs.same.apply ((stV.slice (Rect.unit (s := S4096x512) off S1024x512.size inb) (fun _ => rfl)).view.read (Elt F)
      (View.write (Elt F) (stV.access (Rect.unit (s := S4096x512) off S1024x512.size inb)) f w Finset.univ)) : Vec F S1024x512 .f32) = w :=
  View.read_write_univ (v := stV.access (Rect.unit (s := S4096x512) off S1024x512.size inb)) f w

/-- A row block of the result, copied out. -/
theorem out_done (c : Dev nD) (o : Fin 4) {off : Fin 2 → ℕ} (h : off = ![1024 * o.val, 0]) (inb : ∀ a, off a + S1024x512.size a ≤ S4096x512.size a)
    (g : Vec F S4096x512 .f32) {w : Vec F S1024x512 .f32} (hw : w = outBlk m c o) :
    pt c (oM.slice (Rect.unit (s := S4096x512) off S1024x512.size inb) (fun _ => rfl))
        ((oM.slice (Rect.unit (s := S4096x512) off S1024x512.size inb) (fun _ => rfl)).view.writes (Elt F) g
          [⟨Rect.whole (Rect.unit (s := S4096x512) off S1024x512.size inb).shape, w⟩])
      = pt (F := F) c (rb oM o) (outFull m c) := by
  subst h hw
  exact pointsTo_congr (pts_congr_read (rb oM o).view (c : Thread nD τ) rfl fullShare _ _ (by
    rw [read_out]; exact read_over (rb oM o).view g (outBlk m c o) []))

/-- What the tenth to the thirteenth part leave. -/
def afterOut (c : Dev nD) : sProp 𝕄 :=
  iprop((∃ W, owes (c : Thread nD τ) 0 W) ∗ cred (tallyAt (dcell c 2 3) () NQ) ∗ pt c yV (yFull m c)
    ∗ (atPos ER (dcell c 3 (pl 1 c)) (0 + 1) ∅ 0 ∗ atPos ER (dcell c 3 (pl 2 c)) (0 + 1) ∅ 0 ∗ atPos ER (dcell c 3 (pl 3 c)) (0 + 1) ∅ 0)
    ∗ (qrPts c (pl 1 c) (qAll m c) ∗ qrPts c (pl 2 c) (qAll m c) ∗ qrPts c (pl 3 c) (qAll m c))
    ∗ ((∃ f, pt c (rb stV 0) f) ∗ (∃ f, pt c (rb stV 1) f) ∗ (∃ f, pt c (rb stV 2) f) ∗ (∃ f, pt c (rb stV 3) f))
    ∗ (pt c (rb oM c) (outFull m c) ∗ pt c (rb oM (pl 1 c)) (outFull m c) ∗ pt c (rb oM (pl 2 c)) (outFull m c) ∗ pt c (rb oM (pl 3 c)) (outFull m c))
    ∗ semVal ((c : Thread nD τ), lsem 4) 0 ∗ semVal ((c : Thread nD τ), lsem 5) 0
    ∗ semVal ((c : Thread nD τ), lsem 6) 0 ∗ semVal ((c : Thread nD τ), lsem 7) 0)

/-- The body from its fourteenth part on. -/
def bodyEnd (d0 : Dev nD) (v2 : BitVec 32) : Prog (TpuEff nD τ sig (Elt F) Λ₀ .tc) PUnit := do
  part14 d0 v2
  tailWait d0

/-- A device that owes nothing may wait for a local copy. -/
theorem mayWait_none (c : Dev nD) (i : Fin 24) (hi : i.val < 8) : (levAts L lv : sProp 𝕄) ⊢ MayWait (c : Thread nD τ) (lsem i) () 0 :=
  mayWait_of c _ 0 (above_zero _)

set_option maxHeartbeats 1000000 in
/-- Parts ten to thirteen store and send the third block, receive the three blocks, copy the four row blocks out, and run to the state `afterOut`. -/
theorem run_out (c : Dev nD) (v2 v268 : BitVec 32) (v280 : Vec F S1x1024x512 .i8) (Q : PUnit → sProp 𝕄) (R : sProp 𝕄)
    (hk : iprop(afterOut m c ∗ R) ⊢ wpC c (bodyEnd (F := F) c v2) Q) :
    iprop((records m K ∗ levAts L lv ∗ (∃ W, owes (c : Thread nD τ) (0 + tallyAt (dcell (pl 3 c) 3 c) () NQ) W)
        ∗ (dutyTok ER (dcell c 2 3) 0 0 ∗ dutyTok ER (dcell (pl 3 c) 3 c) 0 0 ∗ (∃ f, qrPts (pl 3 c) c f))
        ∗ pt c yV (yFull m c)
        ∗ (∃ f, pt c (qtV.slice (Rect.unit (s := S4x1024x512) ![3, 0, 0] S1x1024x512.size inb_S4x1024x512_S1x1024x512_3_0_0) (fun _ => rfl)) f)
        ∗ (cred (tallyAt (dcell c 3 (pl 1 c)) () NQ) ∗ atPos ER (dcell c 3 (pl 1 c)) 0 ∅ 0)
        ∗ (cred (tallyAt (dcell c 3 (pl 2 c)) () NQ) ∗ atPos ER (dcell c 3 (pl 2 c)) 0 ∅ 0)
        ∗ (cred (tallyAt (dcell c 3 (pl 3 c)) () NQ) ∗ atPos ER (dcell c 3 (pl 3 c)) 0 ∅ 0)
        ∗ ((∃ f, pt c (rb stV 0) f) ∗ (∃ f, pt c (rb stV 1) f) ∗ (∃ f, pt c (rb stV 2) f) ∗ (∃ f, pt c (rb stV 3) f))
        ∗ ((∃ f, pt c (rb oM c) f) ∗ (∃ f, pt c (rb oM (pl 1 c)) f) ∗ (∃ f, pt c (rb oM (pl 2 c)) f) ∗ (∃ f, pt c (rb oM (pl 3 c)) f))
        ∗ semVal ((c : Thread nD τ), lsem 4) 0 ∗ semVal ((c : Thread nD τ), lsem 5) 0
        ∗ semVal ((c : Thread nD τ), lsem 6) 0 ∗ semVal ((c : Thread nD τ), lsem 7) 0) ∗ R)
      ⊢ wpC c (bodyOut (F := F) c v2 (scl m) (inv m) v268 (k0_pay34 (inv m) (ySlab m c (pl 3 c))) v280) Q := by
  iintro ⟨⟨#HR, #Hlev, ⟨%W, HO⟩, ⟨Hs3, Hr3, Hd3⟩, Hy, ⟨%f3, Hq3⟩, ⟨Hc1, Ha1⟩, ⟨Hc2, Ha2⟩, ⟨Hc3, Ha3⟩,
    ⟨⟨%t0, Ht0⟩, ⟨%t1, Ht1⟩, ⟨%t2, Ht2⟩, ⟨%t3, Ht3⟩⟩, ⟨⟨%g0, Hg0⟩, ⟨%g1, Hg1⟩, ⟨%g2, Hg2⟩, ⟨%g3, Hg3⟩⟩, Hl4, Hl5, Hl6, Hl7⟩, HRr⟩
  ihave Ht0 := (Entails.of_eq (rb_off (F := F) stV c 0 (off := ![0, 0]) rfl inb_S4096x512_S1024x512_0_0 t0)) $$ Ht0
  ihave Ht1 := (Entails.of_eq (rb_off (F := F) stV c 1 (off := ![1024, 0]) rfl inb_S4096x512_S1024x512_1024_0 t1)) $$ Ht1
  ihave Ht2 := (Entails.of_eq (rb_off (F := F) stV c 2 (off := ![2048, 0]) rfl inb_S4096x512_S1024x512_2048_0 t2)) $$ Ht2
  ihave Ht3 := (Entails.of_eq (rb_off (F := F) stV c 3 (off := ![3072, 0]) rfl inb_S4096x512_S1024x512_3072_0 t3)) $$ Ht3
  ihave Hg0 := (Entails.of_eq (rb_off (F := F) oM c c (k0_off9_eq c) (k0_off9_inb c) g0)) $$ Hg0
  ihave Hg1 := (Entails.of_eq (rb_off (F := F) oM c (pl 1 c) (off := k0_off11 c 1#32) (off11 c 0) (k0_off11_inb c 0) g1)) $$ Hg1
  ihave Hg2 := (Entails.of_eq (rb_off (F := F) oM c (pl 2 c) (off := k0_off11 c 2#32) (off11 c 1) (k0_off11_inb c 1) g2)) $$ Hg2
  ihave Hg3 := (Entails.of_eq (rb_off (F := F) oM c (pl 3 c) (off := k0_off11 c 3#32) (off11 c 2) (k0_off11_inb c 2) g3)) $$ Hg3
  have hmw := mayWait_none (F := F) c
  unfold bodyOut wpC
  sl_exec_parts
  unfold run_out.sl.Hq3_w1
  ihave Hq3 := (Entails.of_eq (qt_off (F := F) c 3 (off := ![3, 0, 0]) rfl inb_S4x1024x512_S1x1024x512_3_0_0 _).symm) $$ Hq3
  iapply (step_sendQ m K c _ 3 (Fin.ext (k0_dev9_eq c)) (by decide) (sem_dS 3 rfl _) (sem_dR c (k0_off2_eq c) _) (slab_eq qrV c (k0_off7_eq c) _) _ _ _
    (qt_read m 3 rfl _ f3 c (pl 3 c) rfl)) $$ [HO Hs3 Hr3 Hq3 Hd3]
  · isplitr; · iexact HR
    isplitl [HO]; · iexact HO
    isplitl [Hs3]; · iexact Hs3
    isplitl [Hr3]; · iexact Hr3
    isplitl [Hq3]; · iexact Hq3
    iexact Hd3
  iintro ⟨Hs3, HO⟩
  unfold wpC
  sl_exec_parts (disch := decide)
  iapply (step_wait m K c 3 (pl 1 c) (if_neg (pl_ne 1 (by decide) c)) (sem_dR (pl 1 c) (off4 c 0) _) (q_credit _ _ _) rfl 0 (above_zero _) _) $$ [Hc1 HO Ha1]
  · isplitr; · iexact HR
    isplitr; · iexact Hlev
    isplitl [Hc1]; · iexact Hc1
    isplitl [HO] <;> iassumption
  iintro ⟨⟨%W1, HO⟩, Ha1, Hp1⟩
  ihave Hp1 := (Entails.of_eq ((pay_dR m c (pl 1 c)).trans (qr_off (F := F) c (pl 1 c) (off := k0_off6 c 1#32) (off6 c 0) (k0_off6_inb c 0) _))) $$ Hp1
  unfold wpC
  sl_exec_parts (disch := decide)
  iapply (step_wait m K c 3 (pl 3 c) (if_neg (pl_ne 3 (by decide) c)) (sem_dR (pl 3 c) (off4 c 2) _) (q_credit _ _ _) rfl 0 (above_zero _) _) $$ [Hc3 HO Ha3]
  · isplitr; · iexact HR
    isplitr; · iexact Hlev
    isplitl [Hc3]; · iexact Hc3
    isplitl [HO] <;> iassumption
  iintro ⟨⟨%W2, HO⟩, Ha3, Hp3⟩
  ihave Hp3 := (Entails.of_eq ((pay_dR m c (pl 3 c)).trans (qr_off (F := F) c (pl 3 c) (off := k0_off6 c 3#32) (off6 c 2) (k0_off6_inb c 2) _))) $$ Hp3
  unfold wpC
  sl_exec_parts (disch := decide)
  iapply (step_wait m K c 3 (pl 2 c) (if_neg (pl_ne 2 (by decide) c)) (sem_dR (pl 2 c) (off4 c 1) _) (q_credit _ _ _) rfl 0 (above_zero _) _) $$ [Hc2 HO Ha2]
  · isplitr; · iexact HR
    isplitr; · iexact Hlev
    isplitl [Hc2]; · iexact Hc2
    isplitl [HO] <;> iassumption
  iintro ⟨⟨%W3, HO⟩, Ha2, Hp2⟩
  ihave Hp2 := (Entails.of_eq ((pay_dR m c (pl 2 c)).trans (qr_off (F := F) c (pl 2 c) (off := k0_off6 c 2#32) (off6 c 1) (k0_off6_inb c 1) _))) $$ Hp2
  unfold wpC
  set_option sl_exec.stopBefore "part14" in sl_exec_parts (disch := decide)
  have e0 : run_out.sl.dma3 m c t0 = outBlk m c c := by
    unfold run_out.sl.dma3 run_out.sl.Ht0_w1
    exact (stage_read _ _ _ _).trans ((congrArg (k0_pay36 (scl m) (inv m)) (load_y m c c (k0_off8_eq c) _)).trans (outBlk_own m c).symm)
  have e1 : run_out.sl.dma3_1 m c t1 = outBlk m c (pl 1 c) := by
    unfold run_out.sl.dma3_1 run_out.sl.Ht1_w1
    exact (stage_read _ _ _ _).trans ((congrArg (k0_pay37 (scl m)) (load_q m c (pl 1 c) (off6 c 0) _)).trans (outBlk_other m c 1 (by decide)).symm)
  have e3 : run_out.sl.dma3_2 m c t3 = outBlk m c (pl 3 c) := by
    unfold run_out.sl.dma3_2 run_out.sl.Ht3_w1
    exact (stage_read _ _ _ _).trans ((congrArg (k0_pay38 (scl m)) (load_q m c (pl 3 c) (off6 c 2) _)).trans (outBlk_other m c 3 (by decide)).symm)
  have e2 : run_out.sl.dma3_3 m c t2 = outBlk m c (pl 2 c) := by
    unfold run_out.sl.dma3_3 run_out.sl.Ht2_w1
    exact (stage_read _ _ _ _).trans ((congrArg (k0_pay37 (scl m)) (load_q m c (pl 2 c) (off6 c 1) _)).trans (outBlk_other m c 2 (by decide)).symm)
  ihave Hg0 := (Entails.of_eq (out_done m c c (k0_off9_eq c) (k0_off9_inb c) g0 e0)) $$ Hg0
  ihave Hg1 := (Entails.of_eq (out_done m c (pl 1 c) (off := k0_off11 c 1#32) (off11 c 0) (k0_off11_inb c 0) g1 e1)) $$ Hg1
  ihave Hg2 := (Entails.of_eq (out_done m c (pl 2 c) (off := k0_off11 c 2#32) (off11 c 1) (k0_off11_inb c 1) g2 e2)) $$ Hg2
  ihave Hg3 := (Entails.of_eq (out_done m c (pl 3 c) (off := k0_off11 c 3#32) (off11 c 2) (k0_off11_inb c 2) g3 e3)) $$ Hg3
  ihave Hp1 := (Entails.of_eq (qr_off (F := F) c (pl 1 c) (off := k0_off6 c 1#32) (off6 c 0) (k0_off6_inb c 0) (qAll m c)).symm) $$ Hp1
  ihave Hp2 := (Entails.of_eq (qr_off (F := F) c (pl 2 c) (off := k0_off6 c 2#32) (off6 c 1) (k0_off6_inb c 1) (qAll m c)).symm) $$ Hp2
  ihave Hp3 := (Entails.of_eq (qr_off (F := F) c (pl 3 c) (off := k0_off6 c 3#32) (off6 c 2) (k0_off6_inb c 2) (qAll m c)).symm) $$ Hp3
  ihave Ht0 := (Entails.of_eq (rb_off (F := F) stV c 0 (off := ![0, 0]) rfl inb_S4096x512_S1024x512_0_0 _).symm) $$ Ht0
  ihave Ht1 := (Entails.of_eq (rb_off (F := F) stV c 1 (off := ![1024, 0]) rfl inb_S4096x512_S1024x512_1024_0 _).symm) $$ Ht1
  ihave Ht2 := (Entails.of_eq (rb_off (F := F) stV c 2 (off := ![2048, 0]) rfl inb_S4096x512_S1024x512_2048_0 _).symm) $$ Ht2
  ihave Ht3 := (Entails.of_eq (rb_off (F := F) stV c 3 (off := ![3072, 0]) rfl inb_S4096x512_S1024x512_3072_0 _).symm) $$ Ht3
  unfold bodyEnd wpC at hk
  iapply hk
  unfold afterOut
  isplitr [HRr]; swap; · iexact HRr
  isplitl [HO]; · iexists _; iexact HO
  isplitl [Hs3]; · iexact Hs3
  isplitl [Hy]; · iexact Hy
  isplitl [Ha1 Ha2 Ha3]
  · isplitl [Ha1]; · iexact Ha1
    isplitl [Ha2] <;> iassumption
  isplitl [Hp1 Hp2 Hp3]
  · isplitl [Hp1]; · iexact Hp1
    isplitl [Hp2] <;> iassumption
  isplitl [Ht0 Ht1 Ht2 Ht3]
  · isplitl [Ht0]; · iexists _; iexact Ht0
    isplitl [Ht1]; · iexists _; iexact Ht1
    isplitl [Ht2]; · iexists _; iexact Ht2
    iexists _; iexact Ht3
  isplitl [Hg0 Hg1 Hg2 Hg3]
  · isplitl [Hg0]; · iexact Hg0
    isplitl [Hg1]; · iexact Hg1
    isplitl [Hg2] <;> iassumption
  isplitl [Hl4]; · iexact Hl4
  isplitl [Hl5]; · iexact Hl5
  isplitl [Hl6]; · iexact Hl6
  iexact Hl7

end Cert.KernelIdeal.Mesh

end
-- ==== Proof.Body.lean ====
/-
# The whole body

The last waits, and the body's runs one after the other: from a device's buffers and its part of the protocol to
its result, its buffers and its semaphores at zero.
-/
module

public import proofs.«01_k».proof.Proof.Out

@[expose] public section

noncomputable section

namespace Cert.KernelIdeal.Mesh

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × KI → ℕ)

/-! ## The last waits -/

/-- The published row has the one credit. -/
theorem tx_credit : (txV : Memref sig .tc .vmem S1x128 .f32).view.dmaCredit = NA := rfl

/-- A send semaphore of the maxima has duty 0. -/
theorem duties_aS (c : Dev nD) (i : Fin 4) (hi : i ≠ 0) : dutiesOf c (some (0, i)) = {0} := if_neg hi
/-- A send semaphore of the blocks has duty 0. -/
theorem duties_dS (c : Dev nD) (i : Fin 4) (hi : i ≠ 0) : dutiesOf c (some (2, i)) = {0} := if_neg hi

/-- What the last waits leave. -/
def afterEnd (c : Dev nD) : sProp 𝕄 :=
  iprop((∃ W, owes (c : Thread nD τ) 0 W)
    ∗ (qtPts c 1 ∗ qtPts c 2 ∗ qtPts c 3) ∗ (txPts m c 1 ∗ txPts m c 2 ∗ txPts m c 3)
    ∗ (atPos ER (dcell c 2 1) (0 + 1) ∅ 0 ∗ atPos ER (dcell c 2 2) (0 + 1) ∅ 0 ∗ atPos ER (dcell c 2 3) (0 + 1) ∅ 0)
    ∗ (atPos ER (dcell c 0 1) (0 + 1) ∅ 0 ∗ atPos ER (dcell c 0 2) (0 + 1) ∅ 0 ∗ atPos ER (dcell c 0 3) (0 + 1) ∅ 0))

set_option maxHeartbeats 1000000 in
/-- The last part and the last wait see the six sends done and run to the state `afterEnd`. -/
theorem run_end (c : Dev nD) (v2 : BitVec 32) (Q : PUnit → sProp 𝕄) (R : sProp 𝕄)
    (hk : iprop(afterEnd m c ∗ R) ⊢ iprop(|={Set.univ}=> Q ⟨⟩)) :
    iprop((records m K ∗ levAts L lv ∗ (∃ W, owes (c : Thread nD τ) 0 W)
        ∗ (cred (tallyAt (dcell c 2 1) () NQ) ∗ atPos ER (dcell c 2 1) 0 ∅ 0)
        ∗ (cred (tallyAt (dcell c 2 2) () NQ) ∗ atPos ER (dcell c 2 2) 0 ∅ 0)
        ∗ (cred (tallyAt (dcell c 2 3) () NQ) ∗ atPos ER (dcell c 2 3) 0 ∅ 0)
        ∗ (cred (tallyAt (dcell c 0 1) () NA) ∗ atPos ER (dcell c 0 1) 0 ∅ 0)
        ∗ (cred (tallyAt (dcell c 0 2) () NA) ∗ atPos ER (dcell c 0 2) 0 ∅ 0)
        ∗ (cred (tallyAt (dcell c 0 3) () NA) ∗ atPos ER (dcell c 0 3) 0 ∅ 0)) ∗ R)
      ⊢ wpC c (bodyEnd (F := F) c v2) Q := by
  iintro ⟨⟨#HR, #Hlev, ⟨%W, HO⟩, ⟨Hq1, Hb1⟩, ⟨Hq2, Hb2⟩, ⟨Hq3, Hb3⟩, ⟨Hc1, Ha1⟩, ⟨Hc2, Ha2⟩, ⟨Hc3, Ha3⟩⟩, HRr⟩
  unfold bodyEnd tailWait wpC
  sl_exec_parts
  iapply (step_wait m K c 2 2 (duties_dS c 2 (by decide)) (sem_dS 2 rfl _) (q_credit _ _ _) rfl 0 (above_zero _) _) $$ [Hq2 HO Hb2]
  · isplitr; · iexact HR
    isplitr; · iexact Hlev
    isplitl [Hq2]; · iexact Hq2
    isplitl [HO] <;> iassumption
  iintro ⟨⟨%W0, HO⟩, Hb2, Hq2⟩
  unfold wpC
  sl_exec_parts
  iapply (step_wait m K c 2 1 (duties_dS c 1 (by decide)) (sem_dS 1 rfl _) (q_credit _ _ _) rfl 0 (above_zero _) _) $$ [Hq1 HO Hb1]
  · isplitr; · iexact HR
    isplitr; · iexact Hlev
    isplitl [Hq1]; · iexact Hq1
    isplitl [HO] <;> iassumption
  iintro ⟨⟨%W1, HO⟩, Hb1, Hq1⟩
  unfold wpC
  sl_exec_parts
  iapply (step_wait m K c 2 3 (duties_dS c 3 (by decide)) (sem_dS 3 rfl _) (q_credit _ _ _) rfl 0 (above_zero _) _) $$ [Hq3 HO Hb3]
  · isplitr; · iexact HR
    isplitr; · iexact Hlev
    isplitl [Hq3]; · iexact Hq3
    isplitl [HO] <;> iassumption
  iintro ⟨⟨%W2, HO⟩, Hb3, Hq3⟩
  unfold wpC
  sl_exec_parts
  iapply (step_wait m K c 0 1 (duties_aS c 1 (by decide)) (sem_aS 1 rfl _) (tx_credit) rfl 0 (above_zero _) _) $$ [Hc1 HO Ha1]
  · isplitr; · iexact HR
    isplitr; · iexact Hlev
    isplitl [Hc1]; · iexact Hc1
    isplitl [HO] <;> iassumption
  iintro ⟨⟨%W3, HO⟩, Ha1, Hc1⟩
  unfold wpC
  sl_exec_parts
  iapply (step_wait m K c 0 2 (duties_aS c 2 (by decide)) (sem_aS 2 rfl _) (tx_credit) rfl 0 (above_zero _) _) $$ [Hc2 HO Ha2]
  · isplitr; · iexact HR
    isplitr; · iexact Hlev
    isplitl [Hc2]; · iexact Hc2
    isplitl [HO] <;> iassumption
  iintro ⟨⟨%W4, HO⟩, Ha2, Hc2⟩
  unfold wpC
  sl_exec_parts
  iapply (step_wait m K c 0 3 (duties_aS c 3 (by decide)) (sem_aS 3 rfl _) (tx_credit) rfl 0 (above_zero _) _) $$ [Hc3 HO Ha3]
  · isplitr; · iexact HR
    isplitr; · iexact Hlev
    isplitl [Hc3]; · iexact Hc3
    isplitl [HO] <;> iassumption
  iintro ⟨⟨%W5, HO⟩, Ha3, Hc3⟩
  unfold wpC
  sl_exec_parts
  rw [wp_ret]
  iapply hk
  unfold afterEnd
  isplitr [HRr]; swap; · iexact HRr
  isplitl [HO]; · iexists _; iexact HO
  isplitl [Hq1 Hq2 Hq3]
  · isplitl [Hq1]; · iapply (Entails.of_eq (pay_dS m c 1)); iexact Hq1
    isplitl [Hq2]; · iapply (Entails.of_eq (pay_dS m c 2)); iexact Hq2
    iapply (Entails.of_eq (pay_dS m c 3)); iexact Hq3
  isplitl [Hc1 Hc2 Hc3]
  · isplitl [Hc1]; · iapply (Entails.of_eq (pay_aS m c 1)); iexact Hc1
    isplitl [Hc2]; · iapply (Entails.of_eq (pay_aS m c 2)); iexact Hc2
    iapply (Entails.of_eq (pay_aS m c 3)); iexact Hc3
  isplitl [Hb1 Hb2 Hb3]
  · isplitl [Hb1]; · iexact Hb1
    isplitl [Hb2] <;> iassumption
  isplitl [Ha1]; · iexact Ha1
  isplitl [Ha2] <;> iassumption

/-! ## The protocol's state, listed -/

/-- A family over four, listed. -/
theorem four (f : Fin 4 → sProp 𝕄) : bigSep Finset.univ f = iprop(f 0 ∗ f 1 ∗ f 2 ∗ f 3) :=
  bigSep_univ_eq_bigSepL [0, 1, 2, 3] (by decide) (by decide) f
/-- A family over three, listed. -/
theorem three (f : Fin 3 → sProp 𝕄) : bigSep Finset.univ f = iprop(f 0 ∗ f 1 ∗ f 2) :=
  bigSep_univ_eq_bigSepL [0, 1, 2] (by decide) (by decide) f

/-- A family over a device's cells: the barrier, then each kind of transfer semaphore. -/
theorem cells_split (f : KI → sProp 𝕄) :
    bigSep Finset.univ f = iprop(f none ∗ (bigSep Finset.univ fun i => f (some (0, i))) ∗ (bigSep Finset.univ fun i => f (some (1, i)))
      ∗ (bigSep Finset.univ fun i => f (some (2, i))) ∗ bigSep Finset.univ fun i => f (some (3, i))) := by
  have h : (Finset.univ : Finset KI) = insert none (Finset.univ.map ⟨some, Option.some_injective _⟩) := by decide
  rw [h, bigSep_insert (by decide), bigSep_map]
  show iprop(f none ∗ bigSep Finset.univ fun x : Fin 4 × Fin 4 => f (some x)) = _
  rw [bigSep_univ_prod (fun x : Fin 4 × Fin 4 => f (some x)), four]

/-- The tokens a device pays with. -/
theorem payToks_list (c : Dev nD) : payToks (F := F) c = iprop(
    (dutyTok ER (bcell (pl 1 c)) 0 1 ∗ dutyTok ER (bcell (pl 2 c)) 0 2 ∗ dutyTok ER (bcell (pl 3 c)) 0 3)
    ∗ (dutyTok ER (dcell c 0 1) 0 0 ∗ dutyTok ER (dcell c 0 2) 0 0 ∗ dutyTok ER (dcell c 0 3) 0 0)
    ∗ (dutyTok ER (dcell (pl 1 c) 1 c) 0 0 ∗ dutyTok ER (dcell (pl 2 c) 1 c) 0 0 ∗ dutyTok ER (dcell (pl 3 c) 1 c) 0 0)
    ∗ (dutyTok ER (dcell c 2 1) 0 0 ∗ dutyTok ER (dcell c 2 2) 0 0 ∗ dutyTok ER (dcell c 2 3) 0 0)
    ∗ (dutyTok ER (dcell (pl 1 c) 3 c) 0 0 ∗ dutyTok ER (dcell (pl 2 c) 3 c) 0 0 ∗ dutyTok ER (dcell (pl 3 c) 3 c) 0 0)) := by
  have e : ∀ j : Fin 3, pl j.rev.succ (pl j.succ c) = c := by revert c; decide
  have h : ∀ k : Fin 4, ∀ j : Fin 3, (dutyTok ER (dcell (pl j.succ c) k (pl j.rev.succ (pl j.succ c))) 0 0 : sProp 𝕄) = dutyTok ER (dcell (pl j.succ c) k c) 0 0 :=
    fun k j => by rw [e]
  unfold payToks
  rw [bigSep_univ_prod (fun t : TI => (dutyTok ER (tokOf (payTo (c, t))).1 0 (tokOf (payTo (c, t))).2.2 : sProp 𝕄)),
    bigSep_univ_eq_bigSepL [0, 1, 2, 3, 4] (by decide) (by decide)]
  simp only [bigSepL_cons_cons, bigSepL_singleton]
  rw [show (fun j : Fin 3 => (dutyTok ER (tokOf (payTo (c, (2, j)))).1 0 (tokOf (payTo (c, (2, j)))).2.2 : sProp 𝕄))
      = fun j => dutyTok ER (dcell (pl j.succ c) 1 c) 0 0 from funext (h 1),
    show (fun j : Fin 3 => (dutyTok ER (tokOf (payTo (c, (4, j)))).1 0 (tokOf (payTo (c, (4, j)))).2.2 : sProp 𝕄))
      = fun j => dutyTok ER (dcell (pl j.succ c) 3 c) 0 0 from funext (h 3)]
  simp only [three]
  rfl

/-- Where a cell stands when the body is done. -/
def endPos (c : Dev nD) (k : KI) : sProp 𝕄 := iprop(∃ R, ⌜∀ r, R ≤ r → (Rd (F := F) m).duties (kcell (c, k)) r = ∅⌝ ∗ atPos ER (kcell (c, k)) R ∅ 0)
/-- A cell whose round is over stands at its end. -/
theorem end_over (c : Dev nD) (k : KI) : atPos ER (kcell (c, k)) (0 + 1) ∅ 0 ⊢ (endPos m c k : sProp 𝕄) := by
  unfold endPos
  iintro H; iexists (0 + 1)
  isplitr; · ipureintro; exact duties_later m _
  iexact H
/-- A cell that has no duty stands at its end. -/
theorem end_unused (c : Dev nD) (k : KI) (h : dutiesOf c k = ∅) : atPos ER (kcell (c, k)) 0 ∅ 0 ⊢ (endPos m c k : sProp 𝕄) := by
  unfold endPos
  iintro H; iexists 0
  isplitr; · ipureintro; exact duties_none m c k h
  iexact H
/-- All of a device's cells close. -/
theorem close_all (c : Dev nD) : iprop(records m K ∗ bigSep Finset.univ fun k : KI => endPos m c k)
    ⊢ iprop(|={Set.univ}=> bigSep Finset.univ fun k : KI => semVal (kcell (c, k)) 0) := by
  refine ((sep_mono_left (BI.bigSep_of_persistent (Finset.univ : Finset KI) (records m K))).trans ?_).trans (bigSep_fupd _ _)
  rw [← bigSep_sep']
  refine bigSep_mono fun k _ => ?_
  show iprop(records m K ∗ endPos m c k) ⊢ iprop(|={Set.univ}=> semVal (kcell (c, k)) 0)
  unfold endPos
  iintro ⟨HR, ⟨%R, %hR, H⟩⟩
  iapply (close_cell m K c k R hR)
  isplitl [HR] <;> iassumption

/-! ## The body -/

/-- A run that passes any rest on, as a rule for the proofs below. -/
theorem pass {A B P X : sProp 𝕄} (h : ∀ R, (iprop(B ∗ R) ⊢ P) → iprop(A ∗ R) ⊢ X) : A ⊢ iprop((B -∗ P) -∗ X) :=
  BIClass.wand_intro (h _ wand_elim_right)
/-- The same, when the run returns a value. -/
theorem pass_all {T : Type} {A B X : sProp 𝕄} {P : T → sProp 𝕄} (h : ∀ R, (∀ t, iprop(B ∗ R) ⊢ P t) → iprop(A ∗ R) ⊢ X) :
    A ⊢ iprop((∀ t, B -∗ P t) -∗ X) :=
  BIClass.wand_intro (h _ fun t => (sep_mono_right (forall_elim t)).trans wand_elim_right)

/-- A device's buffers of the body's own, at some contents. -/
def scratch (c : Dev nD) : sProp 𝕄 :=
  iprop((∃ f, pt (F := F) c xV f) ∗ (∃ f, pt (F := F) c yV f) ∗ (∃ f, pt (F := F) c waV f) ∗ (∃ f, pt (F := F) c wbV f) ∗ (∃ f, pt (F := F) c txV f)
    ∗ (∃ f, pt (F := F) c rxV f) ∗ (∃ f, pt (F := F) c qtV f) ∗ (∃ f, pt (F := F) c qrV f) ∗ ∃ f, pt (F := F) c stV f)
/-- The semaphores of a device's local copies, at zero. -/
def locals (c : Dev nD) : sProp 𝕄 :=
  iprop((semVal ((c : Thread nD τ), lsem 0) 0 ∗ semVal ((c : Thread nD τ), lsem 1) 0
      ∗ semVal ((c : Thread nD τ), lsem 2) 0 ∗ semVal ((c : Thread nD τ), lsem 3) 0)
    ∗ semVal ((c : Thread nD τ), lsem 4) 0 ∗ semVal ((c : Thread nD τ), lsem 5) 0
    ∗ semVal ((c : Thread nD τ), lsem 6) 0 ∗ semVal ((c : Thread nD τ), lsem 7) 0)
/-- Its operands at the launch memory's contents. -/
def operands (c : Dev nD) : sProp 𝕄 :=
  iprop(pt c aM (m ((c : Thread nD τ).loc main_arg0)) ∗ pt c wM (m ((c : Thread nD τ).loc main_arg1)))

/-- What the body starts from, -/
def bodyPre (c : Dev nD) : sProp 𝕄 :=
  iprop(ghost m K c ∗ creds c ∗ levAts L lv ∗ (∃ W, owes (c : Thread nD τ) (owB c) W)
    ∗ operands m c ∗ (∃ f, pt c oM f) ∗ scratch c ∗ locals c)
/-- and what it leaves: the result, the operands, every semaphore at zero. -/
def bodyPost (c : Dev nD) : sProp 𝕄 :=
  iprop((∃ W, owes (c : Thread nD τ) 0 W) ∗ operands m c ∗ pt c oM (outFull m c) ∗ scratch c ∗ locals c
    ∗ bigSep Finset.univ fun k : KI => semVal (kcell (c, k)) 0)

set_option maxHeartbeats 2000000 in
/-- Device `c`'s body runs from `bodyPre` to `bodyPost`: it ends with the result written, the operands kept and every semaphore at zero. -/
theorem run_body (c : Dev nD) : bodyPre m K c ⊢ wpC c (body (F := F)) fun _ => bodyPost m c := by
  unfold bodyPre ghost posAll creds operands scratch locals
  rw [cells_split, payToks_list, four, around c, four, around c, three, three]
  iintro ⟨⟨#HR, ⟨Hpb, ⟨Hp00, Hp01, Hp02, Hp03⟩, ⟨Hp10, Hp11, Hp12, Hp13⟩, ⟨Hp20, Hp21, Hp22, Hp23⟩, ⟨Hp30, Hp31, Hp32, Hp33⟩⟩,
      ⟨Hb1, Hb2, Hb3⟩, ⟨Hs1, Hs2, Hs3⟩, ⟨Hr1, Hr2, Hr3⟩, ⟨Hu1, Hu2, Hu3⟩, Hv1, Hv2, Hv3⟩,
    ⟨Hcb, ⟨Hca1, Hca2, Hca3⟩, Hcd1, Hcd2, Hcd3⟩, #Hlev, ⟨%W, HO⟩, ⟨Ha, Hw⟩, ⟨%fo, Ho⟩,
    ⟨⟨%fx, Hx⟩, Hy, Hwa, Hwb, Htx, ⟨%frx, Hrx⟩, ⟨%fqt, Hqt⟩, ⟨%fqr, Hqr⟩, ⟨%fst, Hst⟩⟩, ⟨⟨Hl0, Hl1, Hl2, Hl3⟩, Hl4, Hl5, Hl6, Hl7⟩⟩
  ihave Hx := (Entails.of_eq (x_cut (F := F) c fx)) $$ Hx
  icases Hx with ⟨Hxt, Hxb⟩
  ihave Hrx := (Entails.of_eq ((rx_cut (F := F) c frx).trans (around c _))) $$ Hrx
  icases Hrx with ⟨Hrx0, Hrx1, Hrx2, Hrx3⟩
  ihave Hqr := (Entails.of_eq ((qr_cut (F := F) c fqr).trans (around c _))) $$ Hqr
  icases Hqr with ⟨Hqr0, Hqr1, Hqr2, Hqr3⟩
  ihave Hqt := (Entails.of_eq ((qt_cut (F := F) c fqt).trans (four _))) $$ Hqt
  icases Hqt with ⟨Hqt0, Hqt1, Hqt2, Hqt3⟩
  ihave Hst := (Entails.of_eq ((rb_cut (F := F) stV c fst).trans (four _))) $$ Hst
  icases Hst with ⟨Hst0, Hst1, Hst2, Hst3⟩
  ihave Ho := (Entails.of_eq ((rb_cut (F := F) oM c fo).trans (around c _))) $$ Ho
  icases Ho with ⟨Ho0, Ho1, Ho2, Ho3⟩
  iapply (pass_all (run_front m K c W fun _ => bodyPost m c)) $$ [HO Hb1 Hb2 Hb3 Hrx1 Hrx2 Hrx3 Hqr1 Hqr2 Hqr3 Hcb Hpb Ha Hw Hxt Hxb Hy Hwa Hwb Hl0 Hl1 Hl2 Hl3]
  · isplitr; · iexact HR
    isplitr; · iexact Hlev
    isplitl [HO]; · iexact HO
    isplitl [Hb1]; · iexact Hb1
    isplitl [Hb2]; · iexact Hb2
    isplitl [Hb3]; · iexact Hb3
    isplitl [Hrx1 Hqr1]
    · isplitl [Hrx1]; · iexists frx; iexact Hrx1
      iexists fqr; iexact Hqr1
    isplitl [Hrx2 Hqr2]
    · isplitl [Hrx2]; · iexists frx; iexact Hrx2
      iexists fqr; iexact Hqr2
    isplitl [Hrx3 Hqr3]
    · isplitl [Hrx3]; · iexists frx; iexact Hrx3
      iexists fqr; iexact Hqr3
    isplitl [Hcb]; · iexact Hcb
    isplitl [Hpb]; · iexact Hpb
    isplitl [Ha]; · iexact Ha
    isplitl [Hw]; · iexact Hw
    isplitl [Hxt]; · iexists fx; iexact Hxt
    isplitl [Hxb]; · iexists fx; iexact Hxb
    isplitl [Hy]; · iexact Hy
    isplitl [Hwa]; · iexact Hwa
    isplitl [Hwb]; · iexact Hwb
    isplitl [Hl0]; · iexact Hl0
    isplitl [Hl1]; · iexact Hl1
    isplitl [Hl2] <;> iassumption
  iintro %v2
  unfold afterFront barPay
  iintro ⟨HO, Hpb, ⟨HB1, HD1⟩, ⟨HB2, HD2⟩, ⟨HB3, HD3⟩, Ha, Hw, Hxt, Hxb, Hy, Hwa, Hwb, Hl0, Hl1, Hl2, Hl3⟩
  iapply (pass (run_maxima m K c v2 fun _ => bodyPost m c)) $$ [HO Hs1 Hs2 Hs3 Hr1 Hr2 Hr3 HB1 HB2 HB3 Hca1 Hca2 Hca3 Hp11 Hp12 Hp13 Htx Hrx0]
  · isplitr; · iexact HR
    isplitr; · iexact Hlev
    isplitl [HO]; · iexact HO
    isplitl [Hs1 Hr1 HB3]
    · isplitl [Hs1]; · iexact Hs1
      isplitl [Hr1]; · iexact Hr1
      iexact HB3
    isplitl [Hs2 Hr2 HB2]
    · isplitl [Hs2]; · iexact Hs2
      isplitl [Hr2]; · iexact Hr2
      iexact HB2
    isplitl [Hs3 Hr3 HB1]
    · isplitl [Hs3]; · iexact Hs3
      isplitl [Hr3]; · iexact Hr3
      iexact HB1
    isplitl [Hca1 Hp11]
    · isplitl [Hca1]; · iexact Hca1
      iexact Hp11
    isplitl [Hca2 Hp12]
    · isplitl [Hca2]; · iexact Hca2
      iexact Hp12
    isplitl [Hca3 Hp13]
    · isplitl [Hca3]; · iexact Hca3
      iexact Hp13
    isplitl [Htx]; · iexact Htx
    iexists frx; iexact Hrx0
  unfold afterMaxima
  iintro ⟨HO, Hs1, Hs2, Hs3, Hp11, Hp12, Hp13, Hrx, Htx, Htx0⟩
  ihave Hqt1 := (Entails.of_eq (qt_off (F := F) c 1 (off := ![1, 0, 0]) rfl inb_S4x1024x512_S1x1024x512_1_0_0 fqt)) $$ Hqt1
  ihave Hqt2 := (Entails.of_eq (qt_off (F := F) c 2 (off := ![2, 0, 0]) rfl inb_S4x1024x512_S1x1024x512_2_0_0 fqt)) $$ Hqt2
  ihave Hqt3 := (Entails.of_eq (qt_off (F := F) c 3 (off := ![3, 0, 0]) rfl inb_S4x1024x512_S1x1024x512_3_0_0 fqt)) $$ Hqt3
  iapply (pass_all (T := BitVec 32 × Vec F S1x1024x512 .i8)
      (P := fun t => wpC c (bodyOut (F := F) c v2 (scl m) (inv m) t.1 (k0_pay34 (inv m) (ySlab m c (pl 3 c))) t.2) fun _ => bodyPost m c)
      (fun R h => run_send m K c v2 (fun _ => bodyPost m c) R fun a b => h (a, b))) $$ [HO Hu1 Hu2 Hv1 Hv2 HD3 HD2 Hy Hqt1 Hqt2 Hqt3]
  · isplitr; · iexact HR
    isplitl [HO]; · iexact HO
    isplitl [Hu1 Hv1 HD3]
    · isplitl [Hu1]; · iexact Hu1
      isplitl [Hv1]; · iexact Hv1
      iexact HD3
    isplitl [Hu2 Hv2 HD2]
    · isplitl [Hu2]; · iexact Hu2
      isplitl [Hv2]; · iexact Hv2
      iexact HD2
    isplitl [Hy]; · iexact Hy
    isplitl [Hqt1]; · iexists fqt; iexact Hqt1
    isplitl [Hqt2]; · iexists fqt; iexact Hqt2
    iexists fqt; iexact Hqt3
  iintro %t
  unfold afterSend
  iintro ⟨HO, Hu1, Hu2, Hy, Hqt3⟩
  iapply (pass (run_out m K c v2 t.1 t.2 fun _ => bodyPost m c)) $$ [HO Hu3 Hv3 HD1 Hy Hqt3 Hcd1 Hcd2 Hcd3 Hp31 Hp32 Hp33 Hst0 Hst1 Hst2 Hst3 Ho0 Ho1 Ho2 Ho3 Hl4 Hl5 Hl6 Hl7]
  · isplitr; · iexact HR
    isplitr; · iexact Hlev
    isplitl [HO]; · iexact HO
    isplitl [Hu3 Hv3 HD1]
    · isplitl [Hu3]; · iexact Hu3
      isplitl [Hv3]; · iexact Hv3
      iexact HD1
    isplitl [Hy]; · iexact Hy
    isplitl [Hqt3]; · iexact Hqt3
    isplitl [Hcd1 Hp31]
    · isplitl [Hcd1]; · iexact Hcd1
      iexact Hp31
    isplitl [Hcd2 Hp32]
    · isplitl [Hcd2]; · iexact Hcd2
      iexact Hp32
    isplitl [Hcd3 Hp33]
    · isplitl [Hcd3]; · iexact Hcd3
      iexact Hp33
    isplitl [Hst0 Hst1 Hst2 Hst3]
    · isplitl [Hst0]; · iexists fst; iexact Hst0
      isplitl [Hst1]; · iexists fst; iexact Hst1
      isplitl [Hst2]; · iexists fst; iexact Hst2
      iexists fst; iexact Hst3
    isplitl [Ho0 Ho1 Ho2 Ho3]
    · isplitl [Ho0]; · iexists fo; iexact Ho0
      isplitl [Ho1]; · iexists fo; iexact Ho1
      isplitl [Ho2]; · iexists fo; iexact Ho2
      iexists fo; iexact Ho3
    isplitl [Hl4]; · iexact Hl4
    isplitl [Hl5]; · iexact Hl5
    isplitl [Hl6] <;> iassumption
  unfold afterOut
  iintro ⟨HO, Hu3, Hy, ⟨Hp31, Hp32, Hp33⟩, ⟨Hqr1, Hqr2, Hqr3⟩, Hst, Ho, Hl4, Hl5, Hl6, Hl7⟩
  iapply (pass (B := afterEnd m c) (P := iprop(|={Set.univ}=> bodyPost m c)) (run_end m K c v2 fun _ => bodyPost m c)) $$ [HO Hu1 Hu2 Hu3 Hs1 Hs2 Hs3 Hp21 Hp22 Hp23 Hp01 Hp02 Hp03]
  · isplitr; · iexact HR
    isplitr; · iexact Hlev
    isplitl [HO]; · iexact HO
    isplitl [Hu1 Hp21]; · isplitl [Hu1] <;> iassumption
    isplitl [Hu2 Hp22]; · isplitl [Hu2] <;> iassumption
    isplitl [Hu3 Hp23]; · isplitl [Hu3] <;> iassumption
    isplitl [Hs1 Hp01]; · isplitl [Hs1] <;> iassumption
    isplitl [Hs2 Hp02]; · isplitl [Hs2] <;> iassumption
    isplitl [Hs3] <;> iassumption
  unfold afterEnd
  iintro ⟨HO, ⟨Hqt1, Hqt2, Hqt3⟩, ⟨Htx1, Htx2, Htx3⟩, ⟨Hp21, Hp22, Hp23⟩, Hp01, Hp02, Hp03⟩
  imod (close_all m K c) $$ [Hpb Hp00 Hp01 Hp02 Hp03 Hp10 Hp11 Hp12 Hp13 Hp20 Hp21 Hp22 Hp23 Hp30 Hp31 Hp32 Hp33] with Hz
  · isplitr; · iexact HR
    rw [cells_split, four, around c, four, around c]
    isplitl [Hpb]; · iapply (end_over m c none); iexact Hpb
    isplitl [Hp00 Hp01 Hp02 Hp03]
    · isplitl [Hp00]; · iapply (end_unused m c (some (0, 0)) rfl); iexact Hp00
      isplitl [Hp01]; · iapply (end_over m c (some (0, 1))); iexact Hp01
      isplitl [Hp02]; · iapply (end_over m c (some (0, 2))); iexact Hp02
      iapply (end_over m c (some (0, 3))); iexact Hp03
    isplitl [Hp10 Hp11 Hp12 Hp13]
    · isplitl [Hp10]; · iapply (end_unused m c (some (1, c)) (if_pos rfl)); iexact Hp10
      isplitl [Hp11]; · iapply (end_over m c (some (1, pl 1 c))); iexact Hp11
      isplitl [Hp12]; · iapply (end_over m c (some (1, pl 2 c))); iexact Hp12
      iapply (end_over m c (some (1, pl 3 c))); iexact Hp13
    isplitl [Hp20 Hp21 Hp22 Hp23]
    · isplitl [Hp20]; · iapply (end_unused m c (some (2, 0)) rfl); iexact Hp20
      isplitl [Hp21]; · iapply (end_over m c (some (2, 1))); iexact Hp21
      isplitl [Hp22]; · iapply (end_over m c (some (2, 2))); iexact Hp22
      iapply (end_over m c (some (2, 3))); iexact Hp23
    isplitl [Hp30]; · iapply (end_unused m c (some (3, c)) (if_pos rfl)); iexact Hp30
    isplitl [Hp31]; · iapply (end_over m c (some (3, pl 1 c))); iexact Hp31
    isplitl [Hp32]; · iapply (end_over m c (some (3, pl 2 c))); iexact Hp32
    iapply (end_over m c (some (3, pl 3 c))); iexact Hp33
  imodintro
  unfold bodyPost operands scratch locals
  isplitl [HO]; · iexact HO
  isplitl [Ha Hw]; · isplitl [Ha] <;> iassumption
  isplitl [Ho]
  · rw [rb_cut oM c (outFull m c), around c]; iexact Ho
  isplitr [Hl0 Hl1 Hl2 Hl3 Hl4 Hl5 Hl6 Hl7 Hz]; swap
  · isplitr [Hz]; swap; · iexact Hz
    isplitl [Hl0 Hl1 Hl2 Hl3]
    · isplitl [Hl0]; · iexact Hl0
      isplitl [Hl1]; · iexact Hl1
      isplitl [Hl2] <;> iassumption
    isplitl [Hl4]; · iexact Hl4
    isplitl [Hl5]; · iexact Hl5
    isplitl [Hl6] <;> iassumption
  isplitl [Hxt Hxb]; · iapply (x_join (F := F) c); isplitl [Hxt] <;> iassumption
  isplitl [Hy]; · iexists _; iexact Hy
  isplitl [Hwa]; · iexact Hwa
  isplitl [Hwb]; · iexact Hwb
  isplitl [Htx Htx0 Htx1 Htx2 Htx3]
  · iexists _
    iapply (tx_join m c)
    isplitl [Htx]; · iexact Htx
    isplitl [Htx0]; · iexact Htx0
    isplitl [Htx1]; · iexact Htx1
    isplitl [Htx2] <;> iassumption
  isplitl [Hrx]; · iexists _; iexact Hrx
  isplitl [Hqt0 Hqt1 Hqt2 Hqt3]
  · iapply (qt_join (F := F) c)
    rw [four]
    isplitl [Hqt0]; · unfold qtPts; iexists fqt; iexact Hqt0
    isplitl [Hqt1]; · iexact Hqt1
    isplitl [Hqt2] <;> iassumption
  isplitl [Hqr0 Hqr1 Hqr2 Hqr3]
  · iapply (qr_join (F := F) c)
    rw [around c]
    isplitl [Hqr0]; · iexists _; iexact Hqr0
    isplitl [Hqr1]; · iexists _; iexact Hqr1
    isplitl [Hqr2]; · iexists _; iexact Hqr2
    iexists _; iexact Hqr3
  iapply (rb_join (F := F) stV c)
  rw [four]
  iexact Hst

end Cert.KernelIdeal.Mesh

end
-- ==== Proof.Mesh.lean ====
/-
# The launch on four devices

From the launch memory to the final one: the protocol's ghost state is allocated and dealt, each device's body
runs, and the final memory is read. Every execution ends with each device's result at the computed contents, its
operands unchanged, and every semaphore at zero.
-/
module

public import proofs.«01_k».proof.Proof.Body
public import Idealize.ShloMosaic.Lib.Pipeline.CollectiveSegs

@[expose] public section

noncomputable section

namespace Cert.KernelIdeal.Mesh

open Cert.KernelIdeal Cert.KernelIdeal.Gen
open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the eight of the local copies, and the transfers' between devices. -/
abbrev OI : Type := Fin 8 ⊕ (Fin 4 × Fin 4)
/-- The semaphore of each. -/
abbrev osem : OI → SemLoc sig
  | .inl i => lsem ⟨i.val, by omega⟩
  | .inr (k, i) => .dma (dq k i)

/-- They are exactly the kernel's own semaphores, each once. -/
theorem ownSemFacts : Pipeline.OwnSemFacts cfg0.spec osem := by decide

/-- A family over eight, listed. -/
theorem eight (f : Fin 8 → sProp 𝕄) : bigSep Finset.univ f = iprop(f 0 ∗ f 1 ∗ f 2 ∗ f 3 ∗ f 4 ∗ f 5 ∗ f 6 ∗ f 7) :=
  bigSep_univ_eq_bigSepL [0, 1, 2, 3, 4, 5, 6, 7] (by decide) (by decide) f

/-- A device's own semaphores at zero are those of its local copies and those of its cells but the barrier. -/
theorem ownSems_eq (c : Dev nD) : (Pipeline.ownSems0 (Ix := Unit) (Name := ℕ) (U := UU) (Lvl := ℕ) (Val := Elt F) (τ := τ) osem c : sProp 𝕄)
    = iprop((bigSep Finset.univ fun i : Fin 8 => semVal ((c : Thread nD τ), osem (.inl i)) 0)
      ∗ bigSep Finset.univ fun x : Fin 4 × Fin 4 => semVal (kcell (c, some x)) 0) := by
  unfold Pipeline.ownSems0; exact bigSep_univ_sum _
/-- The semaphores of the local copies, listed, -/
theorem locals_eq (c : Dev nD) : (bigSep Finset.univ fun i : Fin 8 => (semVal ((c : Thread nD τ), osem (.inl i)) 0 : sProp 𝕄)) ⊢ locals c := by
  rw [eight]; unfold locals
  iintro ⟨H0, H1, H2, H3, Hr⟩
  isplitr [Hr]; swap; · iexact Hr
  isplitl [H0]; · iexact H0
  isplitl [H1]; · iexact H1
  isplitl [H2]; · iexact H2
  iexact H3
/-- and gathered again. -/
theorem eq_locals (c : Dev nD) : locals c ⊢ (bigSep Finset.univ fun i : Fin 8 => (semVal ((c : Thread nD τ), osem (.inl i)) 0 : sProp 𝕄)) := by
  rw [eight]; unfold locals
  iintro ⟨⟨H0, H1, H2, H3⟩, Hr⟩
  isplitl [H0]; · iexact H0
  isplitl [H1]; · iexact H1
  isplitl [H2]; · iexact H2
  isplitl [H3]; · iexact H3
  iexact Hr
/-- The barrier is the one semaphore that outlives the kernel. -/
theorem unscopedSems_eq (c : Dev nD) : (unscopedSems0 c : sProp 𝕄) = semVal (bcell c) 0 := by
  unfold unscopedSems0; rw [bigSep_eq_bigSepL_of_eq [SemLoc.reg barS] (by decide) (by decide)]; rfl
/-- All cells of a device: the barrier and the others. -/
theorem cells_two (f : KI → sProp 𝕄) : bigSep Finset.univ f = iprop(f none ∗ bigSep Finset.univ fun x : Fin 4 × Fin 4 => f (some x)) := by
  have h : (Finset.univ : Finset KI) = insert none (Finset.univ.map ⟨some, Option.some_injective _⟩) := by decide
  rw [h, bigSep_insert (by decide), bigSep_map]; rfl

/-! ## The ghost state at launch -/

/-- All cells of the mesh. -/
def allCells : Finset (GSem nD τ sig) := Finset.univ.map ⟨kcell, kcell_injective⟩
/-- Different duties have different tokens. -/
theorem tokOf_injective : Function.Injective (tokOf : Dev nD × TI → GSem nD τ sig × ℕ × Fin 4) := by
  rintro ⟨c, t⟩ ⟨c', t'⟩ h
  have h1 := kcell_injective (congrArg Prod.fst h)
  have h2 : (tokK c t).2 = (tokK c' t').2 := congrArg (fun x : GSem nD τ sig × ℕ × Fin 4 => x.2.2) h
  have hc : c = c' := congrArg Prod.fst h1
  subst hc
  have h3 : (tokK c t).1 = (tokK c t').1 := congrArg Prod.snd h1
  have key : ∀ c : Dev nD, ∀ t t' : TI, (tokK c t).1 = (tokK c t').1 → (tokK c t).2 = (tokK c t').2 → t = t' := by decide
  rw [key c t t' h3 h2]
/-- The tokens of all duties. -/
def allToks : Finset (GSem nD τ sig × ℕ × Fin 4) := Finset.univ.map ⟨tokOf, tokOf_injective⟩

/-- The ghost state that the launch starts with. -/
def u₀ : UU :=
  (initOf (Pipeline.cells cfgs cellOf_inj) (Pipeline.launchToks cfgs cellOf_inj), initOf allCells allToks, 1)

/-- What is dealt to a device at first: the states of its own cells, its positions and the tokens of its own cells' duties; -/
def G (c : Dev nD) : sProp 𝕄 :=
  iprop((bigSep Finset.univ fun k : KI => roundState ER (Rd m) (kcell (c, k)) 0)
    ∗ (posAll c ∗ bigSep Finset.univ fun k : KI => reached ER (kcell (c, k)) 0)
    ∗ bigSep Finset.univ fun t : TI => dutyTok ER (tokOf (c, t)).1 0 (tokOf (c, t)).2.2)
/-- and after the exchange: the protocol state its body starts from, and its local copies' semaphores. -/
def G' (c : Dev nD) : sProp 𝕄 := iprop((∃ K, ghost m K c) ∗ locals c)

/-- The mesh's part of that state is the initial state of its rounds. -/
theorem own_ER : BI.own (((Emb.inl : Emb UB (UB × Counters)).trans embR) (initOf allCells allToks)) ⊢ (BI.own (ER (initOf allCells allToks)) : sProp 𝕄) :=
  BI.Entails.refl _

/-- The mesh's initial state is dealt to the devices. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun t : TI => dutyTok ER (tokOf (c, t)).1 0 (tokOf (c, t)).2.2 := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posAll; simp only [bigSep_sep']
  isplitl [Hst]; · iexact Hst
  isplitl [Hat Hr]
  · isplitl [Hat] <;> iassumption
  iexact Htok

/-- A device's cells' invariants allocated from its semaphores. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (Rd m) κ (kcell (c, k))))
          ∗ (bigSep Finset.univ fun k : KI => reached ER (kcell (c, k)) 0)
          ∗ (bigSep Finset.univ fun t : TI => dutyTok ER (tokOf (c, t)).1 0 (tokOf (c, t)).2.2)
          ∗ posAll c ∗ locals c) := by
  have h : iprop((bigSep Finset.univ fun k : KI => semVal (kcell (c, k)) 0) ∗ bigSep Finset.univ fun k : KI => roundState ER (Rd m) (kcell (c, k)) 0)
      ⊢ (|={Set.univ}=> bigSep Finset.univ fun k : KI => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems_eq, unscopedSems_eq]
  unfold G
  iintro ⟨⟨Hl, Hd⟩, Hb, Hst, ⟨Hat, Hr⟩, Htok⟩
  imod h $$ [Hd Hb Hst] with Hinv
  · isplitr [Hst]; swap; · iexact Hst
    rw [cells_two]
    isplitl [Hb] <;> iassumption
  imodintro
  isplitl [Hinv]; · iexact Hinv
  isplitl [Hr]; · iexact Hr
  isplitl [Htok]; · iexact Htok
  isplitl [Hat]; · iexact Hat
  iapply (locals_eq (F := F) c); iexact Hl

/-- The tokens go from the cells' owners to the duties' payers. -/
theorem toks_dealt : (bigSep Finset.univ fun c : Dev nD => bigSep Finset.univ fun t : TI => (dutyTok ER (tokOf (c, t)).1 0 (tokOf (c, t)).2.2 : sProp 𝕄))
    = bigSep Finset.univ fun c : Dev nD => payToks c := by
  let Φ : Dev nD × TI → sProp 𝕄 := fun ct => dutyTok ER (tokOf ct).1 0 (tokOf ct).2.2
  exact (bigSep_univ_prod Φ).symm.trans ((bigSep_univ_equiv payEquiv Φ).trans (bigSep_univ_prod fun ct => Φ (payEquiv ct)))

/-- Once the cells' invariants exist, every device has the protocol state that its body starts from. -/
theorem exchange :
    (bigSep Finset.univ fun c : Dev nD => iprop((bigSep Finset.univ fun k : KI => iprop(∃ κ : ℕ, cellInv ER (Rd m) κ (kcell (c, k))))
          ∗ (bigSep Finset.univ fun k : KI => reached ER (kcell (c, k)) 0)
          ∗ (bigSep Finset.univ fun t : TI => dutyTok ER (tokOf (c, t)).1 0 (tokOf (c, t)).2.2)
          ∗ posAll c ∗ locals c) : sProp 𝕄)
      ⊢ bigSep Finset.univ (G' m) := by
  rw [bigSep_sep', bigSep_sep', bigSep_sep', bigSep_sep', toks_dealt,
    ← bigSep_univ_prod (fun ck : Dev nD × KI => iprop(∃ κ : ℕ, cellInv ER (Rd m) κ (kcell ck))),
    ← bigSep_univ_prod (fun ck : Dev nD × KI => (reached ER (kcell ck) 0 : sProp 𝕄))]
  iintro ⟨HI, #HR, Htok, Hpos, Hl⟩
  ihave HK := (BI.bigSep_exists_pi Finset.univ (fun (ck : Dev nD × KI) (κ : ℕ) => (cellInv ER (Rd m) κ (kcell ck) : sProp 𝕄))) $$ HI
  icases HK with ⟨%K, #HI⟩
  have h : iprop(records m K ∗ bigSep Finset.univ fun c : Dev nD => iprop(posAll c ∗ payToks c ∗ locals c)) ⊢ bigSep Finset.univ (G' m) := by
    refine (sep_mono_left (BI.bigSep_of_persistent (Finset.univ : Finset (Dev nD)) (records m K))).trans ?_
    rw [← bigSep_sep']
    refine bigSep_mono fun c _ => ?_
    unfold G' ghost
    show iprop(records m K ∗ posAll c ∗ payToks c ∗ locals c) ⊢ iprop((∃ K, records m K ∗ posAll c ∗ payToks c) ∗ locals c)
    iintro ⟨HR, Hp, Ht, Hl⟩
    isplitr [Hl]; swap; · iexact Hl
    iexists K
    isplitl [HR]; · iexact HR
    isplitl [Hp] <;> iassumption
  iapply h
  isplitr
  · unfold records; isplitl; · iexact HI
    iexact HR
  rw [bigSep_sep', bigSep_sep']
  isplitl [Hpos]; · iexact Hpos
  isplitl [Htok] <;> iassumption

/-- From the semaphores at zero and the dealt state, all devices come to the protocol state their bodies start from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (exchange m))

/-! ## The credit at launch -/

/-- What device `d` owes at launch, at each cell. -/
def due (a q : ℕ) (ck : Dev nD × KI) (d : Dev nD) : ℕ :=
  0 + (if ck = (pl 3 d, some (3, d)) then q else 0) + (if ck = (pl 1 d, some (3, d)) then q else 0) + (if ck = (pl 2 d, some (3, d)) then q else 0)
    + (if ck = (pl 3 d, some (1, d)) then a else 0) + (if ck = (pl 2 d, some (1, d)) then a else 0) + (if ck = (pl 1 d, some (1, d)) then a else 0)
    + (if ck = (pl 3 d, none) then 1 else 0) + (if ck = (pl 2 d, none) then 1 else 0) + (if ck = (pl 1 d, none) then 1 else 0)

/-- What a device owes at a cell at launch is what `due` says. -/
theorem due_eq (ck : Dev nD × KI) (d : Dev nD) : owB d (kcell ck) () = due NA NQ ck d := by
  have h : ∀ (ck' : Dev nD × KI) (n : ℕ), tallyAt (kcell ck') () n (kcell ck) () = if ck = ck' then n else 0 := fun ck' n => by
    rw [tallyAt_apply]
    by_cases e : ck = ck'
    · rw [if_pos e, if_pos ⟨congrArg kcell e, rfl⟩]
    · rw [if_neg e, if_neg fun e' => e (kcell_injective e'.1)]
  unfold owB owA owD due
  simp only [Pi.add_apply, Finsupp.add_apply, h]
  rfl

/-- Three units are owed to each barrier. -/
theorem due_bar (a q : ℕ) (c : Dev nD) : ∑ d : Dev nD, due a q (c, none) d = 3 := by
  have h : ∀ d : Dev nD, due a q (c, none) d = due 0 0 (c, none) d := fun d => by
    unfold due
    simp only [Prod.mk.injEq, reduceCtorEq, and_false, if_false]
  rw [Finset.sum_congr rfl fun d _ => h d]; clear h; revert c; decide
/-- One row's credit is owed to each receive semaphore of the maxima. -/
theorem due_a (a q : ℕ) (c : Dev nD) (j : Fin 3) : ∑ d : Dev nD, due a q (c, some (1, pl j.succ c)) d = a := by
  have h : ∀ d : Dev nD, due a q (c, some (1, pl j.succ c)) d = if d = pl j.succ c then a else 0 := fun d => by
    fin_cases c <;> fin_cases j <;> fin_cases d <;> simp +decide [due]
  rw [Finset.sum_congr rfl fun d _ => h d, Finset.sum_ite_eq' Finset.univ _ fun _ => a, if_pos (Finset.mem_univ _)]
/-- One block's credit is owed to each receive semaphore of the blocks. -/
theorem due_q (a q : ℕ) (c : Dev nD) (j : Fin 3) : ∑ d : Dev nD, due a q (c, some (3, pl j.succ c)) d = q := by
  have h : ∀ d : Dev nD, due a q (c, some (3, pl j.succ c)) d = if d = pl j.succ c then q else 0 := fun d => by
    fin_cases c <;> fin_cases j <;> fin_cases d <;> simp +decide [due]
  rw [Finset.sum_congr rfl fun d _ => h d, Finset.sum_ite_eq' Finset.univ _ fun _ => q, if_pos (Finset.mem_univ _)]

/-- The launch credit of a cell is the sum of what is owed there. -/
theorem launch_at (ck : Dev nD × KI) (n : ℕ) (h : ∑ d : Dev nD, due NA NQ ck d = n) :
    tallyOn (kcell ck) (launchCredit (Pipeline.owing owB) 0 (kcell ck)) = (tallyAt (kcell ck) () n : CellTallies nD τ sig Unit) := by
  unfold tallyAt; refine congrArg _ (Finsupp.ext fun u => ?_); cases u
  rw [Pipeline.launchCredit_owing, Finsupp.single_eq_same, Finset.sum_congr rfl fun d _ => due_eq ck d, h]

/-- The launch credit gives each device the credit of its own waits. -/
theorem launch_creds (c : Dev nD) : (Pipeline.launchCred owB c : sProp 𝕄) ⊢ creds c := by
  have h : (Pipeline.launchCred owB c : sProp 𝕄) ⊢ bigSep Finset.univ fun k : KI => cred (tallyOn (kcell (c, k)) (launchCredit (Pipeline.owing owB) 0 (kcell (c, k)))) := by
    have hi : Function.Injective csem := fun k k' e => by
      have := congrArg kidx e; rw [kidx_csem, kidx_csem] at this; exact Option.some.inj this
    unfold Pipeline.launchCred
    refine (bigSep_subset (Finset.subset_univ (Finset.univ.map ⟨csem, hi⟩))).trans ?_
    rw [bigSep_map]; exact BI.Entails.refl _
  refine h.trans ?_
  rw [cells_split, around c (fun i => cred (tallyOn (kcell (c, some (1, i))) _)), around c (fun i => cred (tallyOn (kcell (c, some (3, i))) _))]
  unfold creds
  rw [three, three, launch_at (c, none) 3 (due_bar _ _ c), launch_at (c, some (1, pl 1 c)) NA (due_a _ _ c 0), launch_at (c, some (1, pl 2 c)) NA (due_a _ _ c 1),
    launch_at (c, some (1, pl 3 c)) NA (due_a _ _ c 2), launch_at (c, some (3, pl 1 c)) NQ (due_q _ _ c 0), launch_at (c, some (3, pl 2 c)) NQ (due_q _ _ c 1),
    launch_at (c, some (3, pl 3 c)) NQ (due_q _ _ c 2)]
  iintro ⟨Hb, -, ⟨-, Ha1, Ha2, Ha3⟩, -, -, Hd1, Hd2, Hd3⟩
  isplitl [Hb]; · iexact Hb
  isplitl [Ha1 Ha2 Ha3]
  · isplitl [Ha1]; · iexact Ha1
    isplitl [Ha2]; · iexact Ha2
    iexact Ha3
  isplitl [Hd1]; · iexact Hd1
  isplitl [Hd2]; · iexact Hd2
  iexact Hd3

/-! ## The proof data -/

/-- What a device holds when its body starts, but its scratch buffers and what it owes; -/
def start (c : Dev nD) : sProp 𝕄 :=
  iprop((∃ K, ghost m K c) ∗ creds c ∗ levAts L lv ∗ operands m c ∗ (∃ f, pt c oM f) ∗ locals c)
/-- and when it ends. -/
def finish (c : Dev nD) : sProp 𝕄 :=
  iprop(operands m c ∗ pt c oM (outFull m c) ∗ scratch c ∗ locals c ∗ bigSep Finset.univ fun k : KI => semVal (kcell (c, k)) 0)

/-- The launch's proof data: no windows, the state before the one step and after it. -/
def dats (_ : Fin 1) (c : Dev nD) : Dat τ (Elt F) Unit ℕ UU ℕ cfg0 c where
  A w := w.elim0
  after w _ := w.elim0
  Φ t := match t with
    | ⟨0, _⟩ => iprop(start m c ∗ scratch c)
    | ⟨_ + 1, _⟩ => finish m c
  q _ := fullShare
  owed t := match t with
    | ⟨0, _⟩ => owB c
    | ⟨_ + 1, _⟩ => 0

/-- A family over no windows is empty. -/
theorem no_windows (Φ : Fin cfg0.W → sProp 𝕄) : bigSep Finset.univ Φ = iprop(emp) := by
  rw [show (Finset.univ : Finset (Fin cfg0.W)) = ∅ from rfl, bigSep_empty]; rfl

/-- What the body's obligation starts from, -/
def bodyPre' (c : Dev nD) : sProp 𝕄 :=
  iprop((start m c ∗ scratch c) ∗ (dats m 0 c).owesAt () t0_0.castSucc ∗ emp)
/-- and what it must end with. -/
def bodyPost' (c : Dev nD) : sProp 𝕄 :=
  iprop(finish m c ∗ (dats m 0 c).owesAt () t0_0.succ ∗ emp)

/-- The body meets its obligation on every device. -/
theorem body_obligation (c : Dev nD) : BodyObligation (dats (F := F) m 0 c) (defs₀ (F := F)) 𝒱₀ () Set.univ := fun t => by
  rw [fin_N0 t]
  rw [no_windows, no_windows]
  show bodyPre' m c ⊢ wpC c (body (F := F)) fun _ => bodyPost' m c
  have hQ : ∀ u : PUnit, bodyPost m c ⊢ bodyPost' m c := fun _ => by
    unfold bodyPost bodyPost' finish Dat.owesAt Pipeline.owesWithin
    rw [show (dats m 0 c).owed t0_0.succ = 0 from rfl]
    iintro ⟨⟨%W, HO⟩, H1, H2, H3, H4, H5⟩
    isplitr [HO]
    · isplitl [H1]; · iexact H1
      isplitl [H2]; · iexact H2
      isplitl [H3]; · iexact H3
      isplitl [H4] <;> iassumption
    isplitl [HO]
    · iexists W
      isplitr; · ipureintro; exact fun _ _ => Or.inl trivial
      iexact HO
    iempintro
  have hP : bodyPre' m c ⊢ iprop(∃ K, bodyPre m K c) := by
    unfold bodyPre' bodyPre start Dat.owesAt Pipeline.owesWithin
    rw [show (dats m 0 c).owed t0_0.castSucc = owB c from rfl]
    iintro ⟨⟨⟨⟨%K, Hg⟩, Hc, Hl, Ho, Hr, Hs⟩, Hx⟩, ⟨%W, -, HO⟩, -⟩
    iexists K
    isplitl [Hg]; · iexact Hg
    isplitl [Hc]; · iexact Hc
    isplitl [Hl]; · iexact Hl
    isplitl [HO]; · iexists W; iexact HO
    isplitl [Ho]; · iexact Ho
    isplitl [Hr]; · iexact Hr
    isplitl [Hx] <;> iassumption
  exact hP.trans (exists_elim fun K => (run_body m K c).trans (wp_mono _ _ _ hQ))

/-! ## The launch theorem's side conditions -/

/-- A whole buffer held through its view is the buffer held. -/
theorem whole_pt (c : Dev nD) (b : Ref sig .tc) (f : Buf (Elt F) ((c : Thread nD τ).loc b)) :
    (pt c (Memref.whole b) f : sProp 𝕄) = (((c : Thread nD τ).loc b) ↦{fullShare} f) := by
  unfold pt; simp only [Memref.view_whole, View.set_whole]
/-- The same at some contents. -/
theorem whole_some (c : Dev nD) (b : Ref sig .tc) :
    (iprop(∃ f, pt c (Memref.whole b) f) : sProp 𝕄) = iprop(∃ f : Buf (Elt F) ((c : Thread nD τ).loc b), ((c : Thread nD τ).loc b) ↦{fullShare} f) :=
  congrArg _ (funext (whole_pt c b))

/-- What the launch hands a device yields what its body starts from. -/
theorem start_intro (c : Dev nD) :
    iprop(Pipeline.unscopedRestP Pipeline.Prefetch.none cfg0.spec c (fun b => m ((c : Thread nD τ).loc b)) ∗ levAts L lv
        ∗ Pipeline.launchCred owB c ∗ prngReg c (ρ c) ∗ G' m c)
      ⊢ |={Set.univ}=> iprop(start m c ∗ emp) := by
  rw [Pipeline.unscopedRestP_none, unscopedRest0_eq]
  unfold start G' operands
  rw [whole_pt c main_arg0, whole_pt c main_arg1]
  iintro ⟨⟨Ha, Hw, Ho⟩, Hlev, Hcr, -, Hg, Hl⟩
  ihave Hc := (launch_creds (F := F) c) $$ Hcr
  imodintro
  isplitl
  · isplitl [Hg]; · iexact Hg
    isplitl [Hc]; · iexact Hc
    isplitl [Hlev]; · iexact Hlev
    isplitl [Ha Hw]
    · isplitl [Ha] <;> iassumption
    isplitl [Ho]
    · iexists (m ((c : Thread nD τ).loc main_v1)); rw [whole_pt c main_v1]; iexact Ho
    iexact Hl
  · iempintro

/-- The body's own buffers are those that the kernel allocates. -/
theorem scratch_eq (c : Dev nD) : scratch c = (Pipeline.scopedRest cfg0.spec c : sProp 𝕄) := by
  rw [scopedRest0_eq]; unfold scratch
  exact congrArg₂ BIBase.sep (whole_some c cc0_scratch0) (congrArg₂ BIBase.sep (whole_some c cc0_scratch1) (congrArg₂ BIBase.sep (whole_some c cc0_scratch2) (congrArg₂ BIBase.sep (whole_some c cc0_scratch3) (congrArg₂ BIBase.sep (whole_some c cc0_scratch4) (congrArg₂ BIBase.sep (whole_some c cc0_scratch5) (congrArg₂ BIBase.sep (whole_some c cc0_scratch6) (congrArg₂ BIBase.sep (whole_some c cc0_scratch7) (whole_some c cc0_scratch8))))))))

/-- With its buffers allocated, a device is at the state before its one step. -/
theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs] <;> iassumption

/-- What a device keeps past the kernel. -/
def kept (c : Dev nD) : sProp 𝕄 := iprop(unscopedSems0 c ∗ operands m c ∗ pt c oM (outFull m c))

/-- After its one step a device has what it keeps, its semaphores at zero and its buffers to free. -/
theorem phi_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = finish m c from rfl]
  unfold finish kept
  rw [scratch_eq, ownSems_eq, unscopedSems_eq, cells_two]
  iintro ⟨Ho, Hr, Hs, Hl, Hb, Hd⟩
  isplitl [Hb Ho Hr]
  · isplitl [Hb]; · iexact Hb
    isplitl [Ho] <;> iassumption
  isplitr [Hs]; swap; · iexact Hs
  isplitl [Hl]; · iapply (eq_locals (F := F) c); iexact Hl
  iexact Hd

/-- There are no windows to wait for. -/
theorem waits (c : Dev nD) : (levAts L lv : sProp 𝕄) ⊢ Pipeline.cellsWaits cfgs (dats m) () 0 c :=
  Pipeline.cellsWaits_intro cfgs (dats m) () 0 c fun w => w.elim0

/-- A device's final memory: its barrier at zero, its result, its operands. -/
def Final (c : Dev nD) (s : MemSt nD τ sig (Elt F)) : Prop :=
  (∀ sm : SemLoc sig, sm.isScoped .tc = false → s.sem ((c.tc : Thread nD τ), sm) = 0)
    ∧ s.mem ((c : Thread nD τ).loc main_v1) = outFull m c
    ∧ s.mem ((c : Thread nD τ).loc main_arg0) = m ((c : Thread nD τ).loc main_arg0)
    ∧ s.mem ((c : Thread nD τ).loc main_arg1) = m ((c : Thread nD τ).loc main_arg1)

/-- What a device keeps determines its final memory. -/
theorem read_final (c : Dev nD) (s' : Phys nD τ sig (Elt F)) :
    iprop(kept m c ∗ emp ∗ SI s') ⊢ (|={Set.univ}=> iprop(⌜Final m c s'.mem⌝ ∗ SI s') : sProp 𝕄) := by
  unfold kept operands
  rw [whole_pt c main_arg0, whole_pt c main_arg1, whole_pt c main_v1]
  iintro ⟨⟨Hu, ⟨Ha, Hw⟩, Ho⟩, -, HSI⟩
  icombine HSI Ha gives %ha
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ ho, Buf.eq_of_forall_mem_univ ha, Buf.eq_of_forall_mem_univ hw⟩
  iexact HSI

set_option maxRecDepth 8000 in
/-- On four devices, for any float values and any launch memory with zero counters: every fair execution ends, with
    each device's result at `outFull`, its operands unchanged and every semaphore at zero. -/
theorem run_main : θ_run defs (onTc (τ := τ) (main (F := F))) ⟨m, fun _ => 0, ρ⟩ (fun r =>
    (∀ c : Dev nD, r.2.mem ((c : Thread nD τ).loc main_v1) = outFull m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := owB) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      ihave HX := (own_ER (F := F)) $$ HX
      imod (fund m) $$ HX with HG
      imodintro
      isplitl [HP] <;> iassumption)
    (hglob := glob m)
    (hA := fun _ w => w.elim0) (hpf := fun _ k => k.elim0)
    (X := start m) (Y := kept m) (Z := fun _ => iprop(emp))
    (hX := start_intro m ρ) (hin := phi_intro m) (hout := phi_exit m)
    (QY := Final m)
    (hY := read_final m)
    (hQ := fun _ h hs => ⟨fun c => (h c).2.2.2, sem_eq_zero hs fun c => (h c).2.2.1⟩)

end Cert.KernelIdeal.Mesh

end
-- ==== Proof.Quant.lean ====
/-
# Quantising one entry

An entry `y` of the product and the largest absolute value `a` of the whole product give the entry of the
result. The reference divides `y` by the scale `a / 127`, rounds, clips to -127 .. 127 and multiplies by the
scale. The kernel multiplies `y` by `127 / a` instead, and for the blocks it sends to another device it also
passes the clipped value through an 8-bit integer. Over the extended reals, where both `a = 0` and `a = ⊤` are
possible, the three agree whenever `|y| ≤ a`.
-/
module

public import Idealize.ShloMosaic.PureOps.Ideal

@[expose] public section

noncomputable section

namespace Cert.Quant

open Idealize.ShloMosaic

/-- Round to an integer (ties to even), then clip to -127 .. 127. -/
def clipped (x : EReal) : EReal :=
  min ((127 : ℝ) : EReal) (max ((-127 : ℝ) : EReal) (Ideal.liftRound Ideal.roundHalfEven x))

/-- The reference's entry. -/
def refEntry (a y : EReal) : EReal :=
  clipped (Ideal.div y (Ideal.div a ((127 : ℝ) : EReal))) * Ideal.div a ((127 : ℝ) : EReal)

/-- The kernel's entry for the rows a device already holds. -/
def ownEntry (a y : EReal) : EReal :=
  clipped (y * Ideal.div ((127 : ℝ) : EReal) a) * Ideal.div a ((127 : ℝ) : EReal)

/-- The kernel's entry for the rows that arrive from another device as 8-bit integers. -/
def farEntry (a y : EReal) : EReal :=
  (((Ideal.fptosi 8 (clipped (y * Ideal.div ((127 : ℝ) : EReal) a))).toInt : ℝ) : EReal)
    * Ideal.div a ((127 : ℝ) : EReal)

/-- A rounded and clipped value is an integer between -127 and 127. -/
theorem clipped_int (x : EReal) : ∃ n : ℤ, -127 ≤ n ∧ n ≤ 127 ∧ clipped x = ((n : ℝ) : EReal) := by
  induction x with
  | bot =>
    refine ⟨-127, by decide, by decide, ?_⟩
    unfold clipped
    rw [Ideal.liftRound_bot, max_eq_left bot_le, min_eq_right (EReal.coe_le_coe_iff.2 (by norm_num))]
    norm_num
  | top =>
    refine ⟨127, by decide, by decide, ?_⟩
    unfold clipped
    rw [Ideal.liftRound_top, max_eq_right le_top, min_eq_left le_top]
    norm_num
  | coe r =>
    refine ⟨min 127 (max (-127) (Ideal.roundHalfEven r)), ?_, min_le_left _ _, ?_⟩
    · exact le_min (by decide) (le_max_left _ _)
    · unfold clipped
      rw [Ideal.liftRound_coe, Int.cast_min, Int.cast_max, EReal.coe_strictMono.monotone.map_min, EReal.coe_strictMono.monotone.map_max]
      norm_num

/-- A clipped value comes back from an 8-bit integer unchanged. -/
theorem clipped_through_int8 (x : EReal) : (((Ideal.fptosi 8 (clipped x)).toInt : ℝ) : EReal) = clipped x := by
  obtain ⟨n, hl, hu, hn⟩ := clipped_int x
  rw [hn, Ideal.fptosi, Ideal.toIntClamped_coe]
  have : (max (-(2 ^ (8 - 1) : ℕ) : ℤ) (min (((2 ^ (8 - 1) : ℕ) : ℤ) - 1) (if (0 : ℝ) ≤ (n : ℝ) then ⌊(n : ℝ)⌋ else ⌈(n : ℝ)⌉))) = n := by
    rw [Int.floor_intCast, Int.ceil_intCast, ite_self]
    omega
  rw [this, BitVec.toInt_ofInt, Int.bmod_eq_of_le (by omega) (by omega)]

/-- So the two entries of the kernel agree. -/
theorem farEntry_eq (a y : EReal) : farEntry a y = ownEntry a y := by
  unfold farEntry ownEntry
  rw [clipped_through_int8]

/-- 127 is not zero. -/
theorem ne_zero_127 : ((127 : ℝ) : EReal) ≠ 0 := by
  rw [← EReal.coe_zero]; exact fun h => absurd (EReal.coe_injective h) (by norm_num)

/-- Dividing by the scale is multiplying by its inverse, for a largest absolute value that is not zero. -/
theorem div_scale {a : EReal} (h0 : 0 < a) (y : EReal) :
    Ideal.div y (Ideal.div a ((127 : ℝ) : EReal)) = y * Ideal.div ((127 : ℝ) : EReal) a := by
  have hdiv : Ideal.div a ((127 : ℝ) : EReal) = a * ((127 : ℝ) : EReal)⁻¹ := if_neg ne_zero_127
  have hinv : Ideal.div ((127 : ℝ) : EReal) a = ((127 : ℝ) : EReal) * a⁻¹ := if_neg h0.ne'
  rw [hdiv, hinv, ← EReal.coe_inv]
  induction a with
  | bot => exact absurd h0 (not_lt.2 bot_le)
  | top =>
    rw [EReal.top_mul_coe_of_pos (by norm_num), Ideal.div, if_neg (by simp), EReal.inv_top, mul_zero, mul_zero, mul_zero]
  | coe r =>
    have hr : 0 < r := EReal.coe_pos.1 h0
    rw [← EReal.coe_mul, Ideal.div, if_neg, ← EReal.coe_inv, ← EReal.coe_inv, ← EReal.coe_mul, mul_inv, inv_inv, mul_comm r⁻¹]
    rw [← EReal.coe_zero]
    exact fun h => absurd (EReal.coe_injective h) (by positivity)

/-- An absolute value is not negative. -/
theorem abs_nonneg' (y : EReal) : 0 ≤ max y (-y) := by
  rcases le_total 0 y with h | h
  · exact le_max_of_le_left h
  · exact le_max_of_le_right (EReal.neg_nonneg.2 h)

/-- The kernel's entry is the reference's, when the entry's absolute value is at most `a`. -/
theorem ownEntry_eq {a y : EReal} (h : max y (-y) ≤ a) : ownEntry a y = refEntry a y := by
  rcases eq_or_lt_of_le ((abs_nonneg' y).trans h) with h0 | h0
  · have hs : Ideal.div (0 : EReal) ((127 : ℝ) : EReal) = 0 := by
      rw [Ideal.div, if_neg ne_zero_127, zero_mul]
    unfold ownEntry refEntry
    rw [← h0, hs, mul_zero, mul_zero]
  · unfold ownEntry refEntry
    rw [div_scale h0]

end Cert.Quant

end
-- ==== Proof.Values.lean ====
/-
# The kernel's values over the extended reals

Read entry by entry with real arithmetic: what each device's product holds, and the largest absolute value the
devices agree on.
-/
module

public import proofs.«01_k».proof.Proof.Contents
public import proofs.«01_k».proof.Proof.Quant
public import Idealize.ShloMosaic.Lib.MatmulPlain
public import Idealize.ShloMosaic.Lib.ValueIdx
public import Idealize.ShloMosaic.Lib.ValueLayout
public import Idealize.ShloMosaic.PureOps.Ideal.Laws

@[expose] public section

noncomputable section

namespace Cert.KernelIdeal.Mesh

open Cert.KernelIdeal Cert.KernelIdeal.Gen
open Idealize.ShloMosaic Idealize.ShloMosaic.TcCoe Idealize.ShloMosaic.ValueIdx

variable (m : (ℓ : Loc nD τ sig) → Buf (Elt Ideal) ℓ)

/-- Device `c`'s rows of the left operand, as an array of extended reals. -/
def lhs (c : Dev nD) : (⟨2, ![1024, 4096]⟩ : Shape).Idx → EReal := m ((c : Thread nD τ).loc main_arg0)
/-- Device `c`'s copy of the right operand. -/
def rhs (c : Dev nD) : (⟨2, ![4096, 2048]⟩ : Shape).Idx → EReal := m ((c : Thread nD τ).loc main_arg1)

/-- Entry `(r, t)` of half `h` of device `c`'s rows. -/
theorem xh_apply (c : Dev nD) (h : Fin 2) (r : Fin 512) (t : Fin 4096) :
    xh m c h (ix2 (n0 := 512) (n1 := 4096) r t) = lhs m c (ix2 ⟨512 * h.val + r.val, by omega⟩ t) := by
  refine congrArg (lhs m c) (funext fun a => Fin.ext ?_)
  match a with
  | ⟨0, _⟩ => exact congrArg (512 * h.val + ·) (Nat.one_mul r.val)
  | ⟨1, _⟩ => exact (Nat.zero_add _).trans (Nat.one_mul t.val)

/-- Entry `(t, k)` of column block `j` of the right operand. -/
theorem wc_apply (c : Dev nD) (j : Fin 4) (t : Fin 4096) (k : Fin 512) :
    wc m c j (ix2 (n0 := 4096) (n1 := 512) t k) = rhs m c (ix2 t ⟨512 * j.val + k.val, by omega⟩) := by
  refine congrArg (rhs m c) (funext fun a => Fin.ext ?_)
  match a with
  | ⟨0, _⟩ => exact (Nat.zero_add _).trans (Nat.one_mul t.val)
  | ⟨1, _⟩ => exact congrArg (512 * j.val + ·) (Nat.one_mul k.val)

/-- Entry `(r, q)` of device `c`'s product, rows times columns. -/
def prod (c : Dev nD) (r : Fin 1024) (q : Fin 2048) : EReal := ∑ t : Fin 4096, lhs m c (ix2 r t) * rhs m c (ix2 t q)

/-- Entry `(r, k)` of half `h` of column block `j` of device `c`'s product. -/
theorem blk_apply (c : Dev nD) (j : Fin 4) (h : Fin 2) (r k : Fin 512) :
    blk m c j h (ix2 (n0 := 512) (n1 := 512) r k) = prod m c ⟨512 * h.val + r.val, by omega⟩ ⟨512 * j.val + k.val, by omega⟩ := by
  refine (Ideal.matmul_plain_apply (M := 512) (K := 4096) (N := 512) none (xh m c h) (wc m c j) (constant S512x512 .f32 0x00000000#32) r k).trans ?_
  rw [constant_apply, Ideal.ofBits_zero_f32, zero_add]
  exact Finset.sum_congr rfl fun t _ => congrArg₂ (· * ·) (xh_apply m c h r t) (wc_apply m c j t k)

/-- Entry `(r, k)` of column block `j` of device `c`'s product. -/
theorem ySlab_apply (c : Dev nD) (j : Fin 4) (r : Fin 1024) (k : Fin 512) :
    ySlab m c j (ix3 (n0 := 1) (n1 := 1024) (n2 := 512) 0 r k) = prod m c r ⟨512 * j.val + k.val, by omega⟩ := by
  refine (blk_apply m c j ⟨r.val / 512, by omega⟩ ⟨r.val % 512, by omega⟩ k).trans ?_
  refine congrArg (fun r' => prod m c r' _) (Fin.ext ?_)
  show 512 * (r.val / 512) + r.val % 512 = r.val
  omega

/-! ## The largest absolute value -/

/-- The pattern the maxima start from is the least extended real. -/
theorem ofBits_neg_inf : Ideal.ofBits .f32 0xFF800000#32 = ⊥ := by simp [Ideal.ofBits, Ideal.ieee]

/-- A maximum over every index of an array is at most `b` just when every entry is. -/
theorem extract_max_le {s : Shape} {axes : List (Fin s.rank)} (v : FVec Ideal s .f32) (h : s.Reduces axes S1)
    (hφ : FKind.Formats .f32) (hacc : (0xFF800000#32 : BitVec 32) = FKind.maximumf.neutral .f32 hφ) (b : EReal) :
    (extractAt ![0, 0, 0] (shapeCast S1x1x1 (multiReduction .maximumf axes S1 v 0xFF800000#32 h hφ hacc) shapeCasts_S1_S1x1x1) inpos_S1x1x1_p0_0_0 : EReal) ≤ b
      ↔ ∀ i, (v i : EReal) ≤ b := by
  have one (j j' : S1.Idx) : j = j' := funext fun a => Fin.ext (by
    match a with
    | ⟨0, _⟩ => exact (Nat.lt_one_iff.1 (j 0).isLt).trans (Nat.lt_one_iff.1 (j' 0).isLt).symm)
  have key (j : S1.Idx) : (multiReduction .maximumf axes S1 v 0xFF800000#32 h hφ hacc j : EReal) ≤ b ↔ ∀ i, (v i : EReal) ≤ b := by
    rw [multiReduction_maximumf_eq_fold]
    refine (Finset.fold_max_le (f := fun i => (v i : EReal)) b).trans ?_
    rw [show (FloatOps.ofBits .f32 0xFF800000#32 : Ideal .f32) = (⊥ : EReal) from ofBits_neg_inf]
    exact ⟨fun H i => H.2 i (Finset.mem_filter.2 ⟨Finset.mem_univ i, one _ _⟩), fun H => ⟨bot_le, fun i _ => H i⟩⟩
  exact key _

/-- The largest absolute value of one block, over the block with a leading unit axis. -/
theorem absMax_le (y : FVec Ideal S512x512 .f32) (b : EReal) :
    (∀ i, (shapeCast S1x512x512 (absf y) shapeCasts_S512x512_S1x512x512 i : EReal) ≤ b)
      ↔ ∀ r k : Fin 512, max (y (ix2 r k) : EReal) (-(y (ix2 r k))) ≤ b := by
  constructor
  · intro H r k
    have := H (ix3 (n0 := 1) (n1 := 512) (n2 := 512) 0 r k)
    rw [shapeCast_ab_1ab_apply] at this
    exact this
  · intro H i
    obtain ⟨u, r, k, rfl⟩ : ∃ (u : Fin 1) (r k : Fin 512), i = ix3 u r k := ⟨i 0, i 1, i 2, eq_ix3 i⟩
    rw [shapeCast_ab_1ab_apply]
    exact H r k

/-- A block's maximum is at most `b` just when every entry's absolute value is. -/
theorem pay3_le (x : Vec Ideal S512x4096 .f32) (w : Vec Ideal S4096x512 .f32) (b : EReal) :
    (k0_pay3 x w : EReal) ≤ b ↔ ∀ r k : Fin 512, max (k0_pay1 x w (ix2 r k) : EReal) (-(k0_pay1 x w (ix2 r k))) ≤ b := by
  unfold k0_pay3
  dsimp only
  exact (extract_max_le _ _ _ _ b).trans (absMax_le _ b)

/-- The six blocks between the first and the last have their maximum by the same function as the first. -/
theorem pay_eq (x : Vec Ideal S512x4096 .f32) (w : Vec Ideal S4096x512 .f32) :
    k0_pay6 x w = k0_pay3 x w ∧ k0_pay9 x w = k0_pay3 x w ∧ k0_pay12 x w = k0_pay3 x w
      ∧ k0_pay15 x w = k0_pay3 x w ∧ k0_pay18 x w = k0_pay3 x w ∧ k0_pay21 x w = k0_pay3 x w :=
  ⟨rfl, rfl, rfl, rfl, rfl, rfl⟩

/-- The last block's maximum, taken from its absolute values. -/
theorem pay24_max (x : Vec Ideal S512x4096 .f32) (w : Vec Ideal S4096x512 .f32) :
    extractAt ![0, 0, 0] (shapeCast S1x1x1 (multiReduction .maximumf [1, 2] S1 (k0_pay24 x w) 0xFF800000#32 reduces_S1x512x512_S1 (.inl rfl) rfl) shapeCasts_S1_S1x1x1) inpos_S1x1x1_p0_0_0
      = k0_pay3 x w := by
  unfold k0_pay24 k0_pay3 k0_pay22 k0_pay1
  rfl

/-- Every lane of the row a device publishes is the largest of the eight blocks' maxima. -/
theorem pay26_apply (a0 a1 a2 a3 a4 a5 a6 : Ideal .f32) (x : Vec Ideal S512x4096 .f32) (w : Vec Ideal S4096x512 .f32) (l : Fin 128) :
    (k0_pay26 a0 a1 a2 a3 a4 a5 a6 (k0_pay24 x w) (ix2 (n0 := 1) (n1 := 128) 0 l) : EReal)
      = max (max (max (max (max (max (max (a0 : EReal) a1) a2) a3) a4) a5) a6) (k0_pay3 x w) := by
  unfold k0_pay26
  rw [shapeCast_self]
  unfold k0_pay25
  dsimp only
  rw [broadcast_apply, pay24_max]
  simp only [Ideal.scalar_maximumf_def]

/-- A lane of the row that device `c` publishes is at most `b` just when every entry's absolute value is. -/
theorem amaxRow_le (c : Dev nD) (l : Fin 128) (b : EReal) :
    (amaxRow m c (ix2 (n0 := 1) (n1 := 128) 0 l) : EReal) ≤ b
      ↔ ∀ (r : Fin 1024) (q : Fin 2048), max (prod m c r q) (-(prod m c r q)) ≤ b := by
  have hb (j : Fin 4) (h : Fin 2) : (k0_pay3 (xh m c h) (wc m c j) : EReal) ≤ b
      ↔ ∀ r k : Fin 512, max (blk m c j h (ix2 r k) : EReal) (-(blk m c j h (ix2 r k))) ≤ b := pay3_le _ _ b
  have hrow : (amaxRow m c (ix2 (n0 := 1) (n1 := 128) 0 l) : EReal)
      = max (max (max (max (max (max (max (k0_pay3 (xh m c 0) (wc m c 0) : EReal) (k0_pay3 (xh m c 1) (wc m c 0)))
          (k0_pay3 (xh m c 0) (wc m c 1))) (k0_pay3 (xh m c 1) (wc m c 1))) (k0_pay3 (xh m c 0) (wc m c 2)))
          (k0_pay3 (xh m c 1) (wc m c 2))) (k0_pay3 (xh m c 0) (wc m c 3))) (k0_pay3 (xh m c 1) (wc m c 3)) := by
    unfold amaxRow
    rw [pay26_apply, (pay_eq _ _).1, (pay_eq _ _).2.1, (pay_eq _ _).2.2.1, (pay_eq _ _).2.2.2.1, (pay_eq _ _).2.2.2.2.1, (pay_eq _ _).2.2.2.2.2]
  rw [hrow]
  simp only [max_le_iff (c := b)]
  constructor
  · rintro ⟨⟨⟨⟨⟨⟨⟨h00, h01⟩, h10⟩, h11⟩, h20⟩, h21⟩, h30⟩, h31⟩ r q
    have all : ∀ (j : Fin 4) (h : Fin 2), (k0_pay3 (xh m c h) (wc m c j) : EReal) ≤ b := by
      intro j h
      match j, h with
      | 0, 0 => exact h00
      | 0, 1 => exact h01
      | 1, 0 => exact h10
      | 1, 1 => exact h11
      | 2, 0 => exact h20
      | 2, 1 => exact h21
      | 3, 0 => exact h30
      | 3, 1 => exact h31
    have := (hb ⟨q.val / 512, by omega⟩ ⟨r.val / 512, by omega⟩).1 (all _ _) ⟨r.val % 512, by omega⟩ ⟨q.val % 512, by omega⟩
    rw [blk_apply] at this
    have er : (⟨512 * (r.val / 512) + r.val % 512, by omega⟩ : Fin 1024) = r := Fin.ext (Nat.div_add_mod _ _)
    have eq : (⟨512 * (q.val / 512) + q.val % 512, by omega⟩ : Fin 2048) = q := Fin.ext (Nat.div_add_mod _ _)
    rw [er, eq] at this
    exact max_le_iff.1 this
  · intro H
    have all (j : Fin 4) (h : Fin 2) : (k0_pay3 (xh m c h) (wc m c j) : EReal) ≤ b :=
      (hb j h).2 fun r k => by rw [blk_apply]; exact max_le_iff.2 (H _ _)
    exact ⟨⟨⟨⟨⟨⟨⟨all 0 0, all 0 1⟩, all 1 0⟩, all 1 1⟩, all 2 0⟩, all 2 1⟩, all 3 0⟩, all 3 1⟩

/-- The value every device divides by: the largest absolute value of the whole product. -/
def amax : EReal := k0_pay29 (amaxVec m)

/-- That value is at most `b` just when the absolute value of every entry on every device is. -/
theorem amax_le (b : EReal) :
    amax m ≤ b ↔ ∀ (c : Dev nD) (r : Fin 1024) (q : Fin 2048), max (prod m c r q) (-(prod m c r q)) ≤ b := by
  unfold amax k0_pay29
  dsimp only
  refine (extract_max_le (amaxVec m) _ _ _ b).trans ?_
  have lane (u : Fin 1) (c : Fin 4) (l : Fin 128) :
      amaxVec m (ix3 u c l) = amaxRow m c (ix2 (n0 := 1) (n1 := 128) 0 l) := by
    unfold amaxVec k0_pay28
    rw [shapeCast_ab_1ab_apply]
    unfold amaxAll
    rfl
  constructor
  · intro H c
    have hc := H (ix3 (n0 := 1) (n1 := 4) (n2 := 128) 0 c 0)
    rw [lane] at hc
    exact (amaxRow_le m c 0 b).1 hc
  · intro H i
    obtain ⟨u, c, l, rfl⟩ : ∃ (u : Fin 1) (c : Fin 4) (l : Fin 128), i = ix3 u c l := ⟨i 0, i 1, i 2, eq_ix3 i⟩
    rw [lane]
    exact (amaxRow_le m c l b).2 (H c)

end Cert.KernelIdeal.Mesh

end
-- ==== Proof.Result.lean ====
/-
# The kernel's result over the extended reals

Every entry of the result is the quantised entry of the product: by rounding and scaling at once for the rows
a device holds itself, through an 8-bit integer for the rows that arrive.
-/
module

public import proofs.«01_k».proof.Proof.Values

@[expose] public section

noncomputable section

namespace Cert.KernelIdeal.Mesh

open Cert.KernelIdeal Cert.KernelIdeal.Gen
open Idealize.ShloMosaic Idealize.ShloMosaic.TcCoe Idealize.ShloMosaic.ValueIdx

variable (m : (ℓ : Loc nD τ sig) → Buf (Elt Ideal) ℓ)

/-- The pattern of 127. -/
theorem ofBits_127 : Ideal.ofBits .f32 0x42FE0000#32 = ((127 : ℝ) : EReal) := by
  simp [Ideal.ofBits, Ideal.ieee, -EReal.coe_mul]; norm_num
/-- The pattern of -127. -/
theorem ofBits_neg_127 : Ideal.ofBits .f32 0xC2FE0000#32 = ((-127 : ℝ) : EReal) := by
  simp [Ideal.ofBits, Ideal.ieee, -EReal.coe_mul, -EReal.coe_neg]; norm_num

/-- The scale is the largest absolute value over 127. -/
theorem scl_eq : (scl m : EReal) = Ideal.div (amax m) ((127 : ℝ) : EReal) := by
  rw [← ofBits_127]
  unfold scl k0_pay30 amax
  rfl

/-- Its inverse is 127 over the largest absolute value. -/
theorem inv_eq : (inv m : EReal) = Ideal.div ((127 : ℝ) : EReal) (amax m) := by
  rw [← ofBits_127]
  unfold inv k0_pay31 amax
  dsimp only
  rw [Ideal.scalar_divf_def, Ideal.ofBits_def]

/-- A block scaled up, rounded and clipped, read at one entry. -/
theorem clipped_apply (s : Ideal .f32) (y : Vec Ideal S1x1024x512 .f32) (r : Fin 1024) (k : Fin 512) :
    (minimumf (broadcast S1024x512 (Scalar.ofBits (F := Ideal) .f32 0x42FE0000#32))
        (maximumf (broadcast S1024x512 (Scalar.ofBits (F := Ideal) .f32 0xC2FE0000#32))
          (roundeven (mulf (shapeCast S1024x512 y shapeCasts_S1x1024x512_S1024x512) (broadcast S1024x512 s)))) (ix2 (n0 := 1024) (n1 := 512) r k) : EReal)
      = Quant.clipped ((y (ix3 (n0 := 1) (n1 := 1024) (n2 := 512) 0 r k) : EReal) * s) := by
  rw [minimumf_apply, maximumf_apply, broadcast_apply, broadcast_apply]
  unfold Quant.clipped
  rw [← ofBits_127, ← ofBits_neg_127]
  have e : shapeCast S1024x512 y shapeCasts_S1x1024x512_S1024x512 (ix2 (n0 := 1024) (n1 := 512) r k)
      = y (ix3 (n0 := 1) (n1 := 1024) (n2 := 512) 0 r k) := shapeCast_1ab_ab_apply y _ r k
  rw [← e]
  rfl

/-- What a device writes for its own rows, read at one entry. -/
theorem pay36_apply (s i : Ideal .f32) (y : Vec Ideal S1x1024x512 .f32) (r : Fin 1024) (k : Fin 512) :
    (k0_pay36 s i y (ix2 (n0 := 1024) (n1 := 512) r k) : EReal)
      = Quant.clipped ((y (ix3 (n0 := 1) (n1 := 1024) (n2 := 512) 0 r k) : EReal) * i) * s := by
  unfold k0_pay36
  rw [shapeCast_self, mulf_apply, broadcast_apply, clipped_apply]

/-- What a device writes for the rows of another, read at one entry. -/
theorem pay37_apply (s : Ideal .f32) (v : FVec Ideal S1x4x128 .f32) (y : Vec Ideal S1x1024x512 .f32) (r : Fin 1024) (k : Fin 512) :
    (k0_pay37 s (k0_pay32 v y) (ix2 (n0 := 1024) (n1 := 512) r k) : EReal)
      = (((Ideal.fptosi 8 (Quant.clipped ((y (ix3 (n0 := 1) (n1 := 1024) (n2 := 512) 0 r k) : EReal) * k0_pay31 v))).toInt : ℝ) : EReal) * s := by
  unfold k0_pay37 k0_pay32
  dsimp only
  rw [shapeCast_self, mulf_apply, broadcast_apply, sitofp_apply, ← clipped_apply]
  rw [shapeCast_1ab_ab_apply, shapeCast_ab_1ab_apply]
  rfl

/-- Entry `(r, k)` of what device `p` writes for the rows of device `o`. -/
theorem outBlk_apply (p o : Fin 4) (r : Fin 1024) (k : Fin 512) :
    (outBlk m p o (ix2 (n0 := 1024) (n1 := 512) r k) : EReal)
      = Quant.ownEntry (amax m) (prod m o r ⟨512 * p.val + k.val, by omega⟩) := by
  unfold outBlk
  split
  next h =>
    subst h
    rw [pay36_apply, ySlab_apply, scl_eq, inv_eq]
    rfl
  next =>
    unfold qSlab
    rw [pay37_apply, ySlab_apply, scl_eq, ← Quant.farEntry_eq]
    have : (k0_pay31 (amaxVec m) : EReal) = Ideal.div ((127 : ℝ) : EReal) (amax m) := inv_eq m
    rw [this]
    rfl

end Cert.KernelIdeal.Mesh

end
-- ==== Proof.Reference.lean ====
/-
# The reference's result over the extended reals

The reference runs on one device: the product of the whole operands, its largest absolute value, and the
quantised product. This module reads that result entry by entry.
-/
module

public import proofs.«01_k».proof.Proof.Gen.ReferenceIdeal.Run
public import proofs.«01_k».proof.Proof.Quant
public import Idealize.ShloMosaic.Lib.MatmulPlain
public import Idealize.ShloMosaic.Lib.ValueIdx
public import Idealize.ShloMosaic.Lib.IdealHost
public import Idealize.ShloMosaic.Lib.KernelVsHost
public import Idealize.ShloMosaic.Lib.Quiescent

@[expose] public section

noncomputable section

namespace Cert.ReferenceIdeal.Entries

open Cert.ReferenceIdeal Cert.ReferenceIdeal.Gen
open Idealize.ShloMosaic Idealize.ShloMosaic.TcCoe Idealize.ShloMosaic.ValueIdx Idealize.SL.Sem

variable (x : FVec Ideal S4096x4096 .f32) (w : FVec Ideal S4096x2048 .f32)

/-- The product of the operands. -/
def product : FVec Ideal S4096x2048 .f32 := Host.dotGeneral dot_S4096x4096_S4096x2048_S4096x2048_1_0_0_1_n_n none x w

/-- The largest absolute value of the product. -/
def largest : FVec Ideal S_ .f32 :=
  Host.reduce FloatOps.maximumf (Host.absf (product x w)) (constant S_ .f32 0xFF800000#32) reducesTo_S4096x2048_S_d0_1 h_S_

/-- The scale: that value over 127. -/
def scale : FVec Ideal S_ .f32 := Host.divf (largest x w) (constant S_ .f32 0x42FE0000#32)

/-- The reference's result. -/
def result : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (product x w) (broadcastInDim S4096x2048 ![] bcast_S_S4096x2048 (scale x w))))))
    (broadcastInDim S4096x2048 ![] bcast_S_S4096x2048 (scale x w))

/-- The reference ends with `result` of its arguments, the arguments unchanged and every counter at zero. -/
theorem run_result (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v9)
          = result (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r h => ⟨h, sem_eq_zero_of_no_sems (by decide) r.2⟩) (Value.run m ρ)

/-- Entry `(R, Q)` of the product. -/
theorem product_apply (R : Fin 4096) (Q : Fin 2048) :
    (product x w (ix2 (n0 := 4096) (n1 := 2048) R Q) : EReal)
      = ∑ t : Fin 4096, (x (ix2 (n0 := 4096) (n1 := 4096) R t) : EReal) * w (ix2 (n0 := 4096) (n1 := 2048) t Q) := by
  unfold product
  rw [← matmul_zero_eq_dotGeneral]
  refine (Ideal.matmul_plain_apply (M := 4096) (K := 4096) (N := 2048) none x w (constant S4096x2048 .f32 0x00000000#32) R Q).trans ?_
  rw [constant_apply, Ideal.ofBits_zero_f32, zero_add]

/-- The largest absolute value is at most `b` just when every entry's absolute value is. -/
theorem largest_le (b : EReal) : (largest x w ix0 : EReal) ≤ b
    ↔ ∀ (R : Fin 4096) (Q : Fin 2048), max (product x w (ix2 (n0 := 4096) (n1 := 2048) R Q) : EReal) (-(product x w (ix2 R Q))) ≤ b := by
  unfold largest
  rw [Host.reduce_eq_fold]
  refine (Finset.fold_max_le (f := fun i => (Host.absf (product x w) i : EReal)) b).trans ?_
  have hbot : ((constant S_ .f32 0xFF800000#32 : FVec Ideal S_ .f32) (Shape.Idx.first h_S_) : EReal) = ⊥ := by
    rw [constant_apply]; simp [Ideal.ofBits, Ideal.ieee]
  rw [hbot]
  constructor
  · intro H R Q
    exact H.2 (ix2 (n0 := 4096) (n1 := 2048) R Q) (Finset.mem_filter.2 ⟨Finset.mem_univ _, funext fun a => a.elim0⟩)
  · intro H
    refine ⟨bot_le, fun i _ => ?_⟩
    obtain ⟨R, Q, rfl⟩ : ∃ (R : Fin 4096) (Q : Fin 2048), i = ix2 R Q := ⟨i 0, i 1, eq_ix2 i⟩
    exact H R Q

/-- Entry `(R, Q)` of the result. -/
theorem result_apply (R : Fin 4096) (Q : Fin 2048) :
    (result x w (ix2 (n0 := 4096) (n1 := 2048) R Q) : EReal)
      = Quant.refEntry (largest x w ix0) (product x w (ix2 (n0 := 4096) (n1 := 2048) R Q)) := by
  have h127 : Ideal.ofBits .f32 0x42FE0000#32 = ((127 : ℝ) : EReal) := by
    simp [Ideal.ofBits, Ideal.ieee, -EReal.coe_mul]; norm_num
  have hn127 : Ideal.ofBits .f32 0xC2FE0000#32 = ((-127 : ℝ) : EReal) := by
    simp [Ideal.ofBits, Ideal.ieee, -EReal.coe_mul, -EReal.coe_neg]; norm_num
  have hs : (scale x w ix0 : EReal) = Ideal.div (largest x w ix0) ((127 : ℝ) : EReal) := by
    unfold scale
    rw [hostDivf_apply, constant_apply, h127]
  unfold result
  rw [mulf_apply, minimumf_apply, maximumf_apply, broadcastInDim_scalar_apply, broadcastInDim_scalar_apply, broadcastInDim_scalar_apply, hs]
  unfold Quant.refEntry Quant.clipped
  rw [← hs]
  have hd : (Host.divf (product x w) (broadcastInDim S4096x2048 ![] bcast_S_S4096x2048 (scale x w)) (ix2 (n0 := 4096) (n1 := 2048) R Q) : EReal)
      = Ideal.div (product x w (ix2 (n0 := 4096) (n1 := 2048) R Q)) (scale x w ix0) := by
    rw [hostDivf_apply, broadcastInDim_scalar_apply]
  rw [← hd, ← h127, ← hn127]
  rfl

end Cert.ReferenceIdeal.Entries

end
-- ==== Proof.Equal.lean ====
/-
# The two results agree

When each device holds its rows of the left operand and the whole right operand, its entries of the product are
the reference's, so the devices find the same largest absolute value, and the result of device `p` is column
block `p` of the reference's.
-/
module

public import proofs.«01_k».proof.Proof.Result
public import proofs.«01_k».proof.Proof.Reference
public import Idealize.ShloMosaic.Lib.Layout

@[expose] public section

noncomputable section

namespace Cert.KernelIdeal.Mesh

open Cert.KernelIdeal Cert.KernelIdeal.Gen
open Cert.ReferenceIdeal.Entries (product largest result product_apply largest_le result_apply)
open Idealize.ShloMosaic Idealize.ShloMosaic.TcCoe Idealize.ShloMosaic.ValueIdx

variable (m : (ℓ : Loc nD τ sig) → Buf (Elt Ideal) ℓ)
variable (x : (⟨2, ![4096, 4096]⟩ : Shape).Idx → EReal) (w : (⟨2, ![4096, 2048]⟩ : Shape).Idx → EReal)

/-- Every device holds its rows of `x` and all of `w`. -/
def Holds : Prop := ∀ c : Dev nD, lhs m c = Layout.block ⟨2, ![1024, 4096]⟩ ⟨2, ![4096, 4096]⟩ 0 4 c x ∧ rhs m c = w

variable {m x w}

/-- Device `c`'s product holds rows `c * 1024 ..` of the reference's. -/
theorem prod_eq (H : Holds m x w) (c : Fin 4) (r : Fin 1024) (q : Fin 2048) :
    prod m c r q = product x w (ix2 (n0 := 4096) (n1 := 2048) ⟨1024 * c.val + r.val, by omega⟩ q) := by
  rw [product_apply]
  unfold prod
  obtain ⟨hl, hr⟩ := H c
  rw [hl, hr]
  refine Finset.sum_congr rfl fun t _ => congrArg (fun i => (x i : EReal) * w (ix2 t q)) (funext fun a => Fin.ext ?_)
  match a with
  | ⟨0, _⟩ => exact congrArg (· + r.val) (Nat.mul_comm c.val 1024)
  | ⟨1, _⟩ => rfl

/-- The devices find the reference's largest absolute value. -/
theorem amax_eq (H : Holds m x w) : amax m = largest x w ix0 := by
  refine eq_of_forall_ge_iff fun b => ?_
  rw [amax_le, largest_le]
  constructor
  · intro h R Q
    have := h ⟨R.val / 1024, by have := R.isLt; show _ < 4; omega⟩ ⟨R.val % 1024, by omega⟩ Q
    rw [prod_eq H] at this
    have e : (⟨1024 * (R.val / 1024) + R.val % 1024, by omega⟩ : Fin 4096) = R := Fin.ext (Nat.div_add_mod _ _)
    rw [e] at this
    exact this
  · intro h c r q
    rw [prod_eq H]
    exact h _ q

/-- Device `p`'s result is column block `p` of the reference's. -/
theorem outFull_eq (H : Holds m x w) (p : Fin 4) :
    outFull m p = Layout.block ⟨2, ![4096, 512]⟩ ⟨2, ![4096, 2048]⟩ 1 4 p (result x w) := by
  funext i
  obtain ⟨R, k, rfl⟩ : ∃ (R : Fin 4096) (k : Fin 512), i = ix2 R k := ⟨i 0, i 1, eq_ix2 i⟩
  refine (outBlk_apply m p ⟨R.val / 1024, by omega⟩ ⟨R.val % 1024, by omega⟩ k).trans ?_
  rw [prod_eq H, amax_eq H, Quant.ownEntry_eq ((largest_le x w _).1 le_rfl _ _), ← result_apply]
  refine congrArg (result x w) (funext fun a => Fin.ext ?_)
  match a with
  | ⟨0, _⟩ => exact Nat.div_add_mod R.val 1024
  | ⟨1, _⟩ => exact congrArg (· + k.val) (Nat.mul_comm 512 p.val)

end Cert.KernelIdeal.Mesh

end
-- ==== Proof.lean ====
/-
# The claims

The kernel runs on four devices, without a fault, leaves its arguments unchanged and every semaphore counter at
zero, at the machine's floats and over the extended reals; so does the reference on its one device. Over the
extended reals each device's result is its column block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Mesh
public import proofs.«01_k».proof.Proof.Equal
public import Idealize.ShloMosaic.Adequacy
public import Idealize.ShloMosaic.Init

@[expose] public section

noncomputable section

namespace Cert.Proof

open Idealize.ShloMosaic Idealize.SL.Sem

/-- The kernel runs, leaves its arguments unchanged and every counter at zero, at the machine's floats. -/
theorem frame_kernel : Cert.quiescent_Kernel := fun m ρ _ =>
  (θ_run Cert.KernelIdeal.defs _ _).mono (fun _ h => ⟨fun c => (h.1 c).2, h.2⟩) (Cert.KernelIdeal.Mesh.run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Mesh.run_main m ρ)

/-- And the reference. -/
theorem frame_referenceIdeal : Cert.quiescent_ReferenceIdeal := fun m ρ _ =>
  (θ_run Cert.ReferenceIdeal.defs _ _).mono (fun _ h => ⟨fun c => (h.1 c).2, h.2⟩) (Cert.ReferenceIdeal.Entries.run_result m ρ)

/-- Over the extended reals, device `p`'s result is column block `p` of the reference's result. -/
theorem algebraic : Cert.algebraic_KernelIdeal_ReferenceIdeal := by
  intro m g m' g' _ H
  refine ⟨Cert.ReferenceIdeal.Entries.result
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c).1).trans (Cert.KernelIdeal.Mesh.outFull_eq H c), (h.1 c).2⟩)
      (Cert.KernelIdeal.Mesh.run_main m g)
  · exact (θ_run Cert.ReferenceIdeal.defs _ _).mono (fun _ h => h.1 0) (Cert.ReferenceIdeal.Entries.run_result m' g')

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
